-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S4x3x2048 : Shape := ⟨3, ![4, 3, 2048]⟩
abbrev S4x3x8192 : Shape := ⟨3, ![4, 3, 8192]⟩
abbrev S4x256x2048 : Shape := ⟨3, ![4, 256, 2048]⟩
abbrev S4x256x8192 : Shape := ⟨3, ![4, 256, 8192]⟩
abbrev S256x256 : Shape := ⟨2, ![256, 256]⟩
abbrev S256 : Shape := ⟨1, ![256]⟩
abbrev S_ : Shape := ⟨0, ![]⟩

class Facts : Prop where
  bcast_S_S4x3x2048 : S_.BroadcastsInDim S4x3x2048 (![] : Fin 0 → Fin S4x3x2048.rank)
  reducesTo_S4x3x2048_S_d0_1_2 : S4x3x2048.ReducesTo [0, 1, 2] S_
  h_S_ : 0 < S_.numel
  bcast_S_S4x3x8192 : S_.BroadcastsInDim S4x3x8192 (![] : Fin 0 → Fin S4x3x8192.rank)
  reducesTo_S4x3x8192_S_d0_1_2 : S4x3x8192.ReducesTo [0, 1, 2] S_

variable [Facts]

def fn {F : FTy → Type} [FloatOps F] (main_arg0 : FVec F S4x3x2048 .f32) (main_arg1 : FVec F S4x3x8192 .f32) (main_arg2 : FVec F S4x256x2048 .f32) (main_arg3 : FVec F S4x256x8192 .f32) (main_arg4 : FVec F S256x256 .f32) (main_arg5 : FVec F S256 .f32) (main_arg6 : FVec F S256x256 .f32) (main_arg7 : FVec F S256 .f32) : IVec S_ 1 :=
  let main_v0 : FVec F S4x3x2048 .f32 := Host.absf main_arg0
  let main_cst : FVec F S_ .f32 := constant S_ .f32 0x7F800000#32
  let main_v1 : FVec F S4x3x2048 .f32 := broadcastInDim S4x3x2048 ![] bcast_S_S4x3x2048 main_cst
  let main_v2 : IVec S4x3x2048 1 := cmpf .olt main_v0 main_v1
  let main_c : IVec S_ 1 := constantI S_ 1 1#1
  let main_v3 : IVec S_ 1 := (fun x v => Host.reduce IntOp.andi x v reducesTo_S4x3x2048_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x2048 : Shape := ⟨3, ![4, 3, 2048]⟩
abbrev S4x3x8192 : Shape := ⟨3, ![4, 3, 8192]⟩
abbrev S4x256x2048 : Shape := ⟨3, ![4, 256, 2048]⟩
abbrev S4x256x8192 : Shape := ⟨3, ![4, 256, 8192]⟩
abbrev S256x256 : Shape := ⟨2, ![256, 256]⟩
abbrev S256 : Shape := ⟨1, ![256]⟩
abbrev S256x1 : Shape := ⟨2, ![256, 1]⟩
abbrev S1x256x2048 : Shape := ⟨3, ![1, 256, 2048]⟩
abbrev S256x2048 : Shape := ⟨2, ![256, 2048]⟩
abbrev S1x3x2048 : Shape := ⟨3, ![1, 3, 2048]⟩
abbrev S1x3x256 : Shape := ⟨3, ![1, 3, 256]⟩
abbrev S1x256x256 : Shape := ⟨3, ![1, 256, 256]⟩
abbrev S3x2048 : Shape := ⟨2, ![3, 2048]⟩
abbrev S3x256 : Shape := ⟨2, ![3, 256]⟩
abbrev S1x2048 : Shape := ⟨2, ![1, 2048]⟩
abbrev S2048 : Shape := ⟨1, ![2048]⟩
abbrev S2048x1 : Shape := ⟨2, ![2048, 1]⟩
abbrev S1x256 : Shape := ⟨2, ![1, 256]⟩
abbrev S2048x256 : Shape := ⟨2, ![2048, 256]⟩

abbrev nBuf : Space → Nat
  | .hbm => 12
  | .vmem => 18
  | .smem => 0
  | _ => 0

abbrev bufTy : (tb : Table) → Fin (tcTables nBuf tb) → BufTy
  | .hbm, ⟨0, _⟩ => ⟨S4x3x2048, .f32⟩
  | .hbm, ⟨1, _⟩ => ⟨S4x3x8192, .f32⟩
  | .hbm, ⟨2, _⟩ => ⟨S4x256x2048, .f32⟩
  | .hbm, ⟨3, _⟩ => ⟨S4x256x8192, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S256x1, .f32⟩
  | .hbm, ⟨10, _⟩ => ⟨S4x256x2048, .f32⟩
  | .hbm, ⟨11, _⟩ => ⟨S4x256x8192, .f32⟩
  | .local _ .vmem, ⟨0, _⟩ => ⟨S1x256x2048, .f32⟩
  | .local _ .vmem, ⟨1, _⟩ => ⟨S1x256x2048, .f32⟩
  | .local _ .vmem, ⟨2, _⟩ => ⟨S256x256, .f32⟩
  | .local _ .vmem, ⟨3, _⟩ => ⟨S256x1, .f32⟩
  | .local _ .vmem, ⟨4, _⟩ => ⟨S1x256x2048, .f32⟩
  | .local _ .vmem, ⟨5, _⟩ => ⟨S1x256x2048, .f32⟩
  | .local _ .vmem, ⟨6, _⟩ => ⟨S1x3x2048, .f32⟩
  | .local _ .vmem, ⟨7, _⟩ => ⟨S1x3x2048, .f32⟩
  | .local _ .vmem, ⟨8, _⟩ => ⟨S1x3x256, .f32⟩
  | .local _ .vmem, ⟨9, _⟩ => ⟨S1x3x256, .f32⟩
  | .local _ .vmem, ⟨10, _⟩ => ⟨S1x256x256, .f32⟩
  | .local _ .vmem, ⟨11, _⟩ => ⟨S1x256x256, .f32⟩
  | .local _ .vmem, ⟨12, _⟩ => ⟨S1x256x2048, .f32⟩
  | .local _ .vmem, ⟨13, _⟩ => ⟨S1x256x2048, .f32⟩
  | .local _ .vmem, ⟨14, _⟩ => ⟨S256x256, .f32⟩
  | .local _ .vmem, ⟨15, _⟩ => ⟨S256x1, .f32⟩
  | .local _ .vmem, ⟨16, _⟩ => ⟨S1x256x256, .f32⟩
  | .local _ .vmem, ⟨17, _⟩ => ⟨S1x256x256, .f32⟩
  | _, _ => ⟨S4x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x3x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S4x3x2048 : Shape := ⟨3, ![4, 3, 2048]⟩
abbrev S4x3x8192 : Shape := ⟨3, ![4, 3, 8192]⟩
abbrev S4x256x2048 : Shape := ⟨3, ![4, 256, 2048]⟩
abbrev S4x256x8192 : Shape := ⟨3, ![4, 256, 8192]⟩
abbrev S256x256 : Shape := ⟨2, ![256, 256]⟩
abbrev S256 : Shape := ⟨1, ![256]⟩
abbrev S4x2048x256 : Shape := ⟨3, ![4, 2048, 256]⟩
abbrev S1x256x1 : Shape := ⟨3, ![1, 256, 1]⟩
abbrev S4x8192x256 : Shape := ⟨3, ![4, 8192, 256]⟩
abbrev S4x8192x3 : Shape := ⟨3, ![4, 8192, 3]⟩
abbrev S4x2048x3 : Shape := ⟨3, ![4, 2048, 3]⟩
abbrev S4x8192x1x3 : Shape := ⟨4, ![4, 8192, 1, 3]⟩
abbrev S4x1x2048x3 : Shape := ⟨4, ![4, 1, 2048, 3]⟩
abbrev S4x8192x2048x3 : Shape := ⟨4, ![4, 8192, 2048, 3]⟩
abbrev S_ : Shape := ⟨0, ![]⟩
abbrev S4x8192x2048 : Shape := ⟨3, ![4, 8192, 2048]⟩
abbrev S4x8192 : Shape := ⟨2, ![4, 8192]⟩
abbrev S4x8192x1 : Shape := ⟨3, ![4, 8192, 1]⟩
abbrev S4x8192x3x1 : Shape := ⟨4, ![4, 8192, 3, 1]⟩
abbrev S4x256x8192x3 : Shape := ⟨4, ![4, 256, 8192, 3]⟩
abbrev S4x1x8192x3 : Shape := ⟨4, ![4, 1, 8192, 3]⟩

abbrev nBuf : Space → Nat
  | .hbm => 58
  | .vmem => 0
  | .smem => 0
  | _ => 0

abbrev bufTy : (tb : Table) → Fin (tcTables nBuf tb) → BufTy
  | .hbm, ⟨0, _⟩ => ⟨S4x3x2048, .f32⟩
  | .hbm, ⟨1, _⟩ => ⟨S4x3x8192, .f32⟩
  | .hbm, ⟨2, _⟩ => ⟨S4x256x2048, .f32⟩
  | .hbm, ⟨3, _⟩ => ⟨S4x256x8192, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x2048x256, .f32⟩
  | .hbm, ⟨9, _⟩ => ⟨S4x256x2048, .f32⟩
  | .hbm, ⟨10, _⟩ => ⟨S1x256x1, .f32⟩
  | .hbm, ⟨11, _⟩ => ⟨S4x256x2048, .f32⟩
  | .hbm, ⟨12, _⟩ => ⟨S4x256x2048, .f32⟩
  | .hbm, ⟨13, _⟩ => ⟨S4x8192x256, .f32⟩
  | .hbm, ⟨14, _⟩ => ⟨S4x256x8192, .f32⟩
  | .hbm, ⟨15, _⟩ => ⟨S1x256x1, .f32⟩
  | .hbm, ⟨16, _⟩ => ⟨S4x256x8192, .f32⟩
  | .hbm, ⟨17, _⟩ => ⟨S4x256x8192, .f32⟩
  | .hbm, ⟨18, _⟩ => ⟨S4x8192x3, .f32⟩
  | .hbm, ⟨19, _⟩ => ⟨S4x2048x3, .f32⟩
  | .hbm, ⟨20, _⟩ => ⟨S4x8192x1x3, .f32⟩
  | .hbm, ⟨21, _⟩ => ⟨S4x1x2048x3, .f32⟩
  | .hbm, ⟨22, _⟩ => ⟨S4x8192x2048x3, .f32⟩
  | .hbm, ⟨23, _⟩ => ⟨S4x8192x2048x3, .f32⟩
  | .hbm, ⟨24, _⟩ => ⟨S4x8192x2048x3, .f32⟩
  | .hbm, ⟨25, _⟩ => ⟨S4x8192x2048x3, .f32⟩
  | .hbm, ⟨26, _⟩ => ⟨S_, .f32⟩
  | .hbm, ⟨27, _⟩ => ⟨S4x8192x2048, .f32⟩
  | .hbm, ⟨28, _⟩ => ⟨S4x8192x2048, .f32⟩
  | .hbm, ⟨29, _⟩ => ⟨S4x8192x3, .f32⟩
  | .hbm, ⟨30, _⟩ => ⟨S4x8192x3, .i32⟩
  | .hbm, ⟨31, _⟩ => ⟨S4x8192x3, .f32⟩
  | .hbm, ⟨32, _⟩ => ⟨S_, .f32⟩
  | .hbm, ⟨33, _⟩ => ⟨S4x8192x3, .f32⟩
  | .hbm, ⟨34, _⟩ => ⟨S4x8192x3, .f32⟩
  | .hbm, ⟨35, _⟩ => ⟨S_, .f32⟩
  | .hbm, ⟨36, _⟩ => ⟨S4x8192x3, .f32⟩
  | .hbm, ⟨37, _⟩ => ⟨S4x8192x3, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S4x8192x3, .f32⟩
  | .hbm, ⟨42, _⟩ => ⟨S4x8192x3, .f32⟩
  | .hbm, ⟨43, _⟩ => ⟨S_, .i32⟩
  | .hbm, ⟨44, _⟩ => ⟨S4x8192x3, .i32⟩
  | .hbm, ⟨45, _⟩ => ⟨S4x8192x3, .i1⟩
  | .hbm, ⟨46, _⟩ => ⟨S_, .i32⟩
  | .hbm, ⟨47, _⟩ => ⟨S4x8192x3, .i32⟩
  | .hbm, ⟨48, _⟩ => ⟨S4x8192x3, .i32⟩
  | .hbm, ⟨49, _⟩ => ⟨S4x8192x3, .i32⟩
  | .hbm, ⟨50, _⟩ => ⟨S4x8192x3x1, .i32⟩
  | .hbm, ⟨51, _⟩ => ⟨S4x256x8192x3, .f32⟩
  | .hbm, ⟨52, _⟩ => ⟨S4x1x8192x3, .f32⟩
  | .hbm, ⟨53, _⟩ => ⟨S4x256x8192x3, .f32⟩
  | .hbm, ⟨54, _⟩ => ⟨S4x256x8192x3, .f32⟩
  | .hbm, ⟨55, _⟩ => ⟨S_, .f32⟩
  | .hbm, ⟨56, _⟩ => ⟨S4x256x8192, .f32⟩
  | .hbm, ⟨57, _⟩ => ⟨S4x256x8192, .f32⟩
  | _, _ => ⟨S4x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_values : Ref sig .tc := ⟨.hbm, 29, rfl⟩
abbrev main_indices : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_v29 : Ref sig .tc := ⟨.hbm, 44, rfl⟩
abbrev main_v30 : Ref sig .tc := ⟨.hbm, 45, rfl⟩
abbrev main_c_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Proof.Select.lean ====
/- The three smallest entries of a finite family of extended reals, found in two ways: by three rounds of
   "take the least value, at the lowest position holding it, then overwrite that position with +∞", and as the
   first three entries of a stable sort by value. Both give the same three positions when no entry is +∞. -/
module

public import Idealize.ShloMosaic.Lib.SortPrefix
public import Mathlib.Data.EReal.Operations

@[expose] public section

noncomputable section

namespace Cert.Nearest

open Idealize.ShloMosaic

variable {N : Nat}

/-- Among the positions satisfying `S`, position `i` holds the least value of `f`, and is the lowest to hold it. -/
def First (f : Fin N → EReal) (S : Fin N → Prop) (i : Fin N) : Prop :=
  S i ∧ ∀ j, S j → f i < f j ∨ (f i = f j ∧ i ≤ j)

/-- On a nonempty family some position is first. -/
theorem exists_first [NeZero N] (f : Fin N → EReal) : ∃ i, First f (fun _ => True) i := by
  classical
  obtain ⟨i0, -, h0⟩ := Finset.exists_min_image (Finset.univ : Finset (Fin N)) f ⟨0, Finset.mem_univ _⟩
  obtain ⟨i, hi, hl⟩ := Finset.exists_min_image (Finset.univ.filter fun j => f j = f i0) id ⟨i0, by simp⟩
  have e : f i = f i0 := (Finset.mem_filter.mp hi).2
  refine ⟨i, trivial, fun j _ => ?_⟩
  rcases (h0 j (Finset.mem_univ _)).lt_or_eq with h | h
  · exact Or.inl (e ▸ h)
  · exact Or.inr ⟨e.trans h, hl j (Finset.mem_filter.mpr ⟨Finset.mem_univ _, h.symm⟩)⟩

/-- At most one position is first. -/
theorem First.unique {f : Fin N → EReal} {S : Fin N → Prop} {i j : Fin N} (hi : First f S i) (hj : First f S j) : i = j := by
  rcases hi.2 j hj.1 with h | ⟨e, h⟩ <;> rcases hj.2 i hi.1 with h' | ⟨e', h'⟩
  · exact absurd (h.trans h') (lt_irrefl _)
  · exact absurd (e' ▸ h) (lt_irrefl _)
  · exact absurd (e ▸ h') (lt_irrefl _)
  · exact le_antisymm h h'

/-- The position of the least value, the lowest such. -/
def pick [NeZero N] (f : Fin N → EReal) : Fin N := (exists_first f).choose

/-- The picked position is first. -/
theorem first_pick [NeZero N] (f : Fin N → EReal) : First f (fun _ => True) (pick f) := (exists_first f).choose_spec

/-- A first position is the picked one. -/
theorem pick_eq [NeZero N] {f : Fin N → EReal} {i : Fin N} (h : First f (fun _ => True) i) : pick f = i :=
  (first_pick f).unique h

/-- The value at the picked position is the least. -/
theorem pick_le [NeZero N] (f : Fin N → EReal) (j : Fin N) : f (pick f) ≤ f j := by
  rcases (first_pick f).2 j trivial with h | h
  · exact h.le
  · exact h.1.le

/-- The family with position `i` overwritten by +∞. -/
def knock (f : Fin N → EReal) (i : Fin N) : Fin N → EReal := fun j => if j = i then ⊤ else f j

/-- The overwritten position holds +∞. -/
theorem knock_self (f : Fin N → EReal) (i : Fin N) : knock f i i = ⊤ := if_pos rfl

/-- Every other position is as before. -/
theorem knock_of_ne (f : Fin N → EReal) {i j : Fin N} (h : j ≠ i) : knock f i j = f j := if_neg h

/-- The positions that three rounds pick. -/
def pick0 [NeZero N] (f : Fin N → EReal) : Fin N := pick f
def pick1 [NeZero N] (f : Fin N → EReal) : Fin N := pick (knock f (pick0 f))
def pick2 [NeZero N] (f : Fin N → EReal) : Fin N := pick (knock (knock f (pick0 f)) (pick1 f))

section rounds

variable [NeZero N] {f : Fin N → EReal} (hf : ∀ i, f i < ⊤) (hN : 3 ≤ N)
include hf hN

/-- The second round picks the first among the positions other than the first round's. -/
theorem first_pick1 : First f (fun j => j ≠ pick0 f) (pick1 f) := by
  obtain ⟨q, hq⟩ : ∃ q : Fin N, q ≠ pick0 f := by
    by_contra hcon
    push Not at hcon
    have := (hcon ⟨0, by omega⟩).trans (hcon ⟨1, by omega⟩).symm
    exact absurd (Fin.val_eq_of_eq this) (by simp)
  have hne : pick1 f ≠ pick0 f := by
    intro e
    have h := pick_le (knock f (pick0 f)) q
    rw [show pick (knock f (pick0 f)) = pick0 f from e, knock_self, knock_of_ne _ hq] at h
    exact absurd (hf q) (not_lt.mpr h)
  refine ⟨hne, fun j hj => ?_⟩
  have h := (first_pick (knock f (pick0 f))).2 j trivial
  rw [show pick (knock f (pick0 f)) = pick1 f from rfl, knock_of_ne _ hne, knock_of_ne _ hj] at h
  exact h

/-- The third round picks the first among the positions the first two rounds left. -/
theorem first_pick2 : First f (fun j => j ≠ pick0 f ∧ j ≠ pick1 f) (pick2 f) := by
  have hin : ∀ j, j ≠ pick0 f → j ≠ pick1 f → knock (knock f (pick0 f)) (pick1 f) j = f j := fun j h0 h1 => by
    rw [knock_of_ne _ h1, knock_of_ne _ h0]
  have hout : ∀ j, (j = pick0 f ∨ j = pick1 f) → knock (knock f (pick0 f)) (pick1 f) j = ⊤ := fun j h => by
    unfold knock
    rcases h with h | h
    · rw [if_pos h]; split <;> rfl
    · rw [if_pos h]
  obtain ⟨q, hq0, hq1⟩ : ∃ q : Fin N, q ≠ pick0 f ∧ q ≠ pick1 f := by
    by_contra hcon
    push Not at hcon
    have a := hcon ⟨0, by omega⟩
    have b := hcon ⟨1, by omega⟩
    have c := hcon ⟨2, by omega⟩
    simp only [Ne, Fin.ext_iff] at a b c
    omega
  have hne : pick2 f ≠ pick0 f ∧ pick2 f ≠ pick1 f := by
    by_contra hcon
    have h := pick_le (knock (knock f (pick0 f)) (pick1 f)) q
    rw [show pick (knock (knock f (pick0 f)) (pick1 f)) = pick2 f from rfl, hout _ (by
      by_contra hc
      push Not at hc
      exact hcon hc), hin q hq0 hq1] at h
    exact absurd (hf q) (not_lt.mpr h)
  refine ⟨hne, fun j hj => ?_⟩
  have h := (first_pick (knock (knock f (pick0 f)) (pick1 f))).2 j trivial
  rw [show pick (knock (knock f (pick0 f)) (pick1 f)) = pick2 f from rfl, hin _ hne.1 hne.2, hin j hj.1 hj.2] at h
  exact h

/-- The three picks are different positions. -/
theorem pick1_ne_pick0 : pick1 f ≠ pick0 f := (first_pick1 hf hN).1
theorem pick2_ne_pick0 : pick2 f ≠ pick0 f := (first_pick2 hf hN).1.1
theorem pick2_ne_pick1 : pick2 f ≠ pick1 f := (first_pick2 hf hN).1.2

end rounds

/-- "Smaller value first, and of equal values the lower position". -/
def lexBefore (f : Fin N → EReal) (k k' : Fin N) : Bool :=
  decide (f k < f k') || (decide (f k = f k') && decide (k < k'))

/-- That order is strict and total. -/
theorem lexBefore_strict (f : Fin N → EReal) : StrictTotalBefore (lexBefore f) :=
  StrictTotalBefore.of_key_then_position (fun a b : EReal => decide (a < b)) f (fun a => by simp)
    (fun a b c hab hbc => by
      simp only [decide_eq_true_eq] at *
      exact hab.trans hbc)
    (fun a b => by
      simp only [decide_eq_true_eq]
      exact lt_trichotomy a b)

/-- On a list of increasing positions a stable sort by value puts equal values in position order. -/
theorem stableSort_value_eq_lex (f : Fin N → EReal) (l : List (Fin N)) (hl : l.Pairwise (· < ·)) :
    stableSort (fun k k' => decide (f k < f k')) l = stableSort (lexBefore f) l := by
  induction l with
  | nil => rfl
  | cons a l ih =>
    rw [List.pairwise_cons] at hl
    unfold stableSort
    rw [ih hl.2]
    refine insertBefore_congr _ _ a _ fun b hb => ?_
    have hab := hl.1 b ((perm_stableSort (lexBefore f) l).mem_iff.mp hb)
    unfold lexBefore
    rw [decide_eq_false (not_lt.mpr hab.le), Bool.and_false, Bool.or_false]

/-- Sorting the positions by value, stably, is sorting them by that order. -/
theorem sortedFrom_value_eq_lex (f : Fin N → EReal) (k : Fin N) :
    sortedFrom (fun k k' => decide (f k < f k')) k = sortedFrom (lexBefore f) k := by
  have e : sortPositions N (fun k k' => decide (f k < f k')) = sortPositions N (lexBefore f) :=
    stableSort_value_eq_lex f _ (List.pairwise_lt_finRange N)
  unfold sortedFrom
  rw [List.get_of_eq e]
  rfl

/-- A position is not before one with a smaller value, nor before one with the same value that stands no higher. -/
theorem not_lexBefore {f : Fin N → EReal} {i j : Fin N} (h : f i < f j ∨ (f i = f j ∧ i ≤ j)) : lexBefore f j i = false := by
  unfold lexBefore
  rcases h with h | ⟨e, h⟩
  · rw [decide_eq_false (not_lt.mpr h.le), decide_eq_false (ne_of_gt h)]; rfl
  · rw [decide_eq_false (not_lt.mpr e.le), decide_eq_false (not_lt.mpr h), Bool.and_false]; rfl

/-- The three rounds' positions, as a family. -/
def picks [NeZero N] (f : Fin N → EReal) : Fin 3 → Fin N := ![pick0 f, pick1 f, pick2 f]

/-- THE TWO SELECTIONS AGREE: the first three positions of the stable sort by value are the three rounds' picks. -/
theorem sortedFrom_eq_picks [NeZero N] {f : Fin N → EReal} (hf : ∀ i, f i < ⊤) (hN : 3 ≤ N) (k : Fin 3) :
    sortedFrom (fun k k' => decide (f k < f k')) (k.castLE hN) = picks f k := by
  have h0 : First f (fun _ => True) (pick0 f) := first_pick f
  have h1 := first_pick1 hf hN
  have h2 := first_pick2 hf hN
  rw [sortedFrom_value_eq_lex]
  refine (lexBefore_strict f).sortedFrom_eq_of_prefix hN (picks f) ?_ ?_ ?_ k
  · intro a b hab
    have n10 := h1.1
    have n20 := h2.1.1
    have n21 := h2.1.2
    fin_cases a <;> fin_cases b <;> simp_all [picks, eq_comm]
  · intro i j hij
    apply not_lexBefore
    fin_cases i <;> fin_cases j <;> first | exact absurd hij (by decide) | skip
    · exact h0.2 _ trivial
    · exact h0.2 _ trivial
    · exact h1.2 _ h2.1.1
  · intro i p hp
    apply not_lexBefore
    have q0 : p ≠ pick0 f := fun e => hp 0 e.symm
    have q1 : p ≠ pick1 f := fun e => hp 1 e.symm
    fin_cases i
    · exact h0.2 _ trivial
    · exact h1.2 _ q0
    · exact h2.2 _ ⟨q0, q1⟩

/-- The weights written at three positions, the later ones over the earlier, and 0 elsewhere. -/
def spread (i0 i1 i2 : Fin N) (w0 w1 w2 : EReal) (m : Fin N) : EReal :=
  if m = i2 then w2 else if m = i1 then w1 else if m = i0 then w0 else 0

/-- A weighted sum against weights that vanish off three different positions has three terms. -/
theorem sum_mul_spread (a : Fin N → EReal) {i0 i1 i2 : Fin N} (n10 : i1 ≠ i0) (n20 : i2 ≠ i0) (n21 : i2 ≠ i1) (w0 w1 w2 : EReal) :
    ∑ m, a m * spread i0 i1 i2 w0 w1 w2 m = a i0 * w0 + a i1 * w1 + a i2 * w2 := by
  have e : ∀ m, a m * spread i0 i1 i2 w0 w1 w2 m
      = (if m = i0 then a i0 * w0 else 0) + (if m = i1 then a i1 * w1 else 0) + (if m = i2 then a i2 * w2 else 0) := by
    intro m
    unfold spread
    by_cases e2 : m = i2
    · subst e2; simp [n20, n21]
    · by_cases e1 : m = i1
      · subst e1; simp [n10, n21.symm]
      · by_cases e0 : m = i0
        · subst e0; simp [n10.symm, n20.symm]
        · simp [e0, e1, e2]
  simp only [e, Finset.sum_add_distrib, Finset.sum_ite_eq', Finset.mem_univ, if_true]

end Cert.Nearest

end

end
-- ==== Proof.Rounds.lean ====
/- One selection round of the interpolation kernel read column by column: the column's least value, the mask of the
   lowest row holding it, the block with that row overwritten by +∞; and the kernel's payloads as three such rounds. -/
module

public import proofs.«01_k».proof.Proof.Select
public import proofs.«01_k».proof.Proof.Gen.KernelIdeal.Skeleton
public import Idealize.ShloMosaic.PureOps.Ideal.Laws
public import Idealize.ShloMosaic.Lib.ValueLayout
public import Idealize.ShloMosaic.Lib.ValueLayoutCasts
public import Idealize.ShloMosaic.Lib.Pipeline.Value
public import Idealize.ShloMosaic.Lib.SortNet.Extract

@[expose] public section

noncomputable section

namespace Cert.KernelIdeal.Val

open Idealize.ShloMosaic Idealize.ShloMosaic.ValueIdx Cert.KernelIdeal Cert.KernelIdeal.Gen Cert.Nearest

/-- Column `n` of a block. -/
def col (A : FVec Ideal S2048x256 .f32) (n : Fin 256) : Fin 2048 → EReal := fun m => A (ix2 m n)

/-- The least value of each column. -/
def minRow (A : FVec Ideal S2048x256 .f32) : FVec Ideal S1x256 .f32 :=
  shapeCast S1x256 (multiReduction .minimumf [0] S256 A 0x7F800000#32 reduces_S2048x256_S256 (.inl rfl) rfl) shapeCasts_S256_S1x256

/-- The row numbers. -/
def rowIota : IVec S2048x256 32 := iota .tc S2048x256 32 [0] iota_S2048x256_d0_w32

/-- Each column's row numbers where the column attains its least value, 2048 elsewhere. -/
def hits (A : FVec Ideal S2048x256 .f32) : IVec S2048x256 32 :=
  select (cmpf .oeq A (broadcastTo S2048x256 (minRow A) broadcasts_S1x256_S2048x256)) rowIota (broadcast S2048x256 2048#32)

/-- The mask of the lowest row that attains its column's least value. -/
def firstMask (A : FVec Ideal S2048x256 .f32) : IVec S2048x256 1 :=
  cmpi .eq rowIota (broadcastTo S2048x256 (shapeCast S1x256
    (multiReductionI .minsi [0] S256 (hits A) 2147483647#32 reduces_S2048x256_S256 rfl) shapeCasts_S256_S1x256) broadcasts_S1x256_S2048x256)

/-- The block with the masked rows overwritten by +∞. -/
def knockOut (A : FVec Ideal S2048x256 .f32) : FVec Ideal S2048x256 .f32 :=
  select (firstMask A) (broadcast S2048x256 (Scalar.ofBits .f32 0x7F800000#32)) A

/-- The word of positive infinity denotes `⊤`. -/
theorem ofBits_posInf : Ideal.ofBits .f32 0x7F800000#32 = ⊤ := by
  simp [Ideal.ofBits, Ideal.ieee]

/-- A column index of the reduced shape with a row put back. -/
theorem lift_col (n : Fin 256) (m : Fin 2048) :
    (reduces_S2048x256_S256).lift (ix1 n) (m : Fin (S2048x256.size 0)) = ix2 m n := by
  funext a
  match a with
  | ⟨0, _⟩ => rfl
  | ⟨1, _⟩ => rfl

/-- The fold of `min` from `⊤` over a family is its value at the picked position. -/
theorem fold_min_eq_pick (f : Fin 2048 → EReal) : Finset.univ.fold min ⊤ f = f (pick f) := by
  apply le_antisymm
  · exact Finset.fold_min_le _ |>.mpr (Or.inr ⟨pick f, Finset.mem_univ _, le_rfl⟩)
  · exact Finset.le_fold_min _ |>.mpr ⟨le_top, fun j _ => pick_le f j⟩

/-- The row of least values, at a column: the value at the picked row. -/
theorem minRow_apply (A : FVec Ideal S2048x256 .f32) (u : Fin 1) (n : Fin 256) :
    minRow A (ix2 u n) = col A n (pick (col A n)) := by
  unfold minRow
  refine (shapeCast_a_1a_apply _ shapeCasts_S256_S1x256 u n).trans ?_
  refine (multiReduction_minimumf_eq_fold _ _ _ _ _ _).trans ?_
  refine (Shape.Reduces.fold_filter_drop_single _ _ _ A (ix1 n)).trans ?_
  rw [show FloatOps.ofBits (F := Ideal) .f32 0x7F800000#32 = (⊤ : EReal) from ofBits_posInf]
  refine Eq.trans ?_ (fold_min_eq_pick (col A n))
  refine Finset.fold_congr fun m _ => ?_
  exact congrArg A (lift_col n m)

/-- The row numbers, at an index. -/
theorem rowIota_apply (m : Fin 2048) (n : Fin 256) : rowIota (ix2 m n) = BitVec.ofNat 32 m.val :=
  iota_single_apply _ _ _ _ _ _

/-- The candidates, at an index. -/
theorem hits_apply (A : FVec Ideal S2048x256 .f32) (m : Fin 2048) (n : Fin 256) :
    hits A (ix2 m n) = if col A n m = col A n (pick (col A n)) then BitVec.ofNat 32 m.val else 2048#32 := by
  unfold hits
  rw [select_apply, rowIota_apply, cmpf_apply, broadcast_apply]
  rw [show broadcastTo S2048x256 (minRow A) broadcasts_S1x256_S2048x256 (ix2 m n) = minRow A (ix2 0 n) from
    broadcastTo_1b_ab_apply _ _ m n, minRow_apply]
  show Scalar.select (BitVec.ofBool (decide (col A n m = col A n (pick (col A n))))) _ _ = _
  by_cases h : col A n m = col A n (pick (col A n))
  · rw [if_pos h, decide_eq_true h]; rfl
  · rw [if_neg h, decide_eq_false h]; rfl

/-- The signed value of a small row number's word. -/
theorem toInt_row (m : Fin 2048) : (BitVec.ofNat 32 m.val).toInt = (m.val : Int) := by
  have := m.isLt
  rw [BitVec.toInt_eq_toNat_of_lt (by rw [BitVec.toNat_ofNat]; omega), BitVec.toNat_ofNat, Nat.mod_eq_of_lt (by omega)]

instance : Std.Commutative (IntOp.minsi (w := 32)) :=
  ⟨fun a b => BitVec.eq_of_toInt_eq (by simp only [SortNet.toInt_minsi, min_comm])⟩
instance : Std.Associative (IntOp.minsi (w := 32)) :=
  ⟨fun a b c => BitVec.eq_of_toInt_eq (by simp only [SortNet.toInt_minsi, min_assoc])⟩

/-- The least of the row numbers attaining the least value is the picked position. -/
theorem fold_minsi_eq_pick (f : Fin 2048 → EReal) :
    Finset.univ.fold IntOp.minsi 2147483647#32 (fun m : Fin 2048 => if f m = f (pick f) then BitVec.ofNat 32 m.val else 2048#32)
      = BitVec.ofNat 32 (pick f).val := by
  apply BitVec.eq_of_toInt_eq
  rw [← Finset.fold_hom (op' := min) (m := BitVec.toInt) (fun a b => SortNet.toInt_minsi a b), toInt_row]
  apply le_antisymm
  · refine Finset.fold_min_le _ |>.mpr (Or.inr ⟨pick f, Finset.mem_univ _, ?_⟩)
    rw [if_pos rfl, toInt_row]
  · refine Finset.le_fold_min _ |>.mpr ⟨?_, fun j _ => ?_⟩
    · have := (pick f).isLt
      rw [show (2147483647#32).toInt = 2147483647 from by decide]; omega
    · split
      · rename_i e
        rw [toInt_row]
        rcases (first_pick f).2 j trivial with h | h
        · exact absurd h (by rw [e]; exact lt_irrefl _)
        · exact_mod_cast h.2
      · have := (pick f).isLt
        rw [show (2048#32).toInt = 2048 from by decide]; omega

/-- The mask is 1 at the picked row of each column and 0 elsewhere. -/
theorem firstMask_apply (A : FVec Ideal S2048x256 .f32) (m : Fin 2048) (n : Fin 256) :
    firstMask A (ix2 m n) = BitVec.ofBool (decide (m = pick (col A n))) := by
  unfold firstMask
  show IntOp.cmpi .eq (rowIota (ix2 m n)) _ = _
  rw [rowIota_apply]
  rw [show broadcastTo S2048x256 (shapeCast S1x256
      (multiReductionI .minsi [0] S256 (hits A) 2147483647#32 reduces_S2048x256_S256 rfl) shapeCasts_S256_S1x256)
        broadcasts_S1x256_S2048x256 (ix2 m n) = BitVec.ofNat 32 (pick (col A n)).val from ?_]
  · show BitVec.ofBool (_ == _) = _
    refine congrArg BitVec.ofBool ?_
    rw [Bool.eq_iff_iff, beq_iff_eq, decide_eq_true_eq]
    refine ⟨fun e => Fin.ext ?_, fun e => by rw [e]⟩
    have := congrArg BitVec.toInt e
    rw [toInt_row, toInt_row] at this
    exact_mod_cast this
  · refine (broadcastTo_1b_ab_apply _ broadcasts_S1x256_S2048x256 m n).trans ?_
    refine (shapeCast_a_1a_apply _ shapeCasts_S256_S1x256 0 n).trans ?_
    refine Eq.trans ?_ (fold_minsi_eq_pick (col A n))
    refine (congrFun (multiReductionI_eq_reduceFold .minsi _ _ _ _) _).trans ?_
    refine (reduceFold_eq_fold _ IntOp.minsi _ _ _).trans ?_
    refine (Shape.Reduces.fold_filter_drop_single _ _ _ (hits A) (ix1 n)).trans ?_
    refine Finset.fold_congr fun k _ => ?_
    exact (congrArg (hits A) (lift_col n k)).trans (hits_apply A k n)

/-- A choice by the word of a decision. -/
theorem select_bool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The overwritten block, at an index. -/
theorem knockOut_apply (A : FVec Ideal S2048x256 .f32) (m : Fin 2048) (n : Fin 256) :
    knockOut A (ix2 m n) = if m = pick (col A n) then ⊤ else A (ix2 m n) := by
  unfold knockOut
  rw [select_apply, firstMask_apply, select_bool, broadcast_apply]
  exact congrArg (fun t : EReal => if m = pick (col A n) then t else A (ix2 m n)) ofBits_posInf

/-- A column, at a row. -/
theorem col_apply (A : FVec Ideal S2048x256 .f32) (n : Fin 256) (m : Fin 2048) : col A n m = A (ix2 m n) := rfl

/-- A column of the overwritten block is the column with its pick overwritten. -/
theorem col_knockOut (A : FVec Ideal S2048x256 .f32) (n : Fin 256) :
    col (knockOut A) n = knock (col A n) (pick (col A n)) := by
  funext m
  rw [col_apply, knockOut_apply, knock, col_apply]

end Cert.KernelIdeal.Val

end

end
-- ==== Proof.Interp.lean ====
/- The interpolation kernel's stored block at an index, at the ideal values: the squared distances of a column, the
   reciprocals at the three picked rows, and the product of the projected points with the three spread weights. -/
module

public import proofs.«01_k».proof.Proof.Rounds
public import Idealize.ShloMosaic.Lib.MatmulPlain

@[expose] public section

set_option maxRecDepth 20000

noncomputable section

namespace Cert.KernelIdeal.Val

open Idealize.ShloMosaic Idealize.ShloMosaic.ValueIdx Cert.KernelIdeal Cert.KernelIdeal.Gen Cert.Nearest

/-- The squared distance of two points given by three coordinates. -/
def sqDist (x y : Fin 3 → EReal) : EReal :=
  ((x 0 - y 0) * (x 0 - y 0) + (x 1 - y 1) * (x 1 - y 1)) + (x 2 - y 2) * (x 2 - y 2)

/-- One over a distance plus a tenth. -/
def recip (d : EReal) : EReal :=
  Ideal.div (FloatOps.ofBits (F := Ideal) .f32 0x3F800000#32) (d + FloatOps.ofBits (F := Ideal) .f32 0x3DCCCCCD#32)

/-- Coordinate `c` of the kernel's first points, cut out, turned into a column and broadcast along the second points. -/
theorem coordCol_apply (off : Fin 2 → Nat) (c : Fin 3) (hc : off = ![c.val, 0]) (v : FVec Ideal S3x2048 .f32)
    (hs : S3x2048.Slices off S1x2048) (m : Fin 2048) (n : Fin 256) :
    broadcastTo S2048x256 (shapeCast S2048x1 (shapeCast S2048 (extractStridedSlice S1x2048 off v hs) shapeCasts_S1x2048_S2048)
      shapeCasts_S2048_S2048x1) broadcasts_S2048x1_S2048x256 (ix2 m n) = v (ix2 c m) := by
  subst hc
  refine (broadcastTo_apply _ broadcasts_S2048x1_S2048x256 (ix2 m n) (ix2 m (0 : Fin 1)) fun ax => ?_).trans ?_
  · match ax with
    | ⟨0, _⟩ => rfl
    | ⟨1, _⟩ => rfl
  refine (shapeCast_a_a1_apply _ shapeCasts_S2048_S2048x1 m 0).trans ?_
  refine (shapeCast_1a_a_apply _ shapeCasts_S1x2048_S2048 m).trans ?_
  refine extractStridedSlice_apply _ v hs _ (ix2 c m) fun ax => ?_
  match ax with
  | ⟨0, _⟩ => rfl
  | ⟨1, _⟩ => exact (Nat.zero_add m.val).symm

/-- Coordinate `c` of the kernel's second points, cut out and broadcast along the first points. -/
theorem coordRow_apply (off : Fin 2 → Nat) (c : Fin 3) (hc : off = ![c.val, 0]) (v : FVec Ideal S3x256 .f32)
    (hs : S3x256.Slices off S1x256) (m : Fin 2048) (n : Fin 256) :
    broadcastTo S2048x256 (shapeCast S1x256 (shapeCast S256 (extractStridedSlice S1x256 off v hs) shapeCasts_S1x256_S256)
      shapeCasts_S256_S1x256) broadcasts_S1x256_S2048x256 (ix2 m n) = v (ix2 c n) := by
  subst hc
  refine (broadcastTo_1b_ab_apply _ broadcasts_S1x256_S2048x256 m n).trans ?_
  refine (shapeCast_a_1a_apply _ shapeCasts_S256_S1x256 0 n).trans ?_
  refine (shapeCast_1a_a_apply _ shapeCasts_S1x256_S256 n).trans ?_
  refine extractStridedSlice_apply _ v hs _ (ix2 c n) fun ax => ?_
  match ax with
  | ⟨0, _⟩ => rfl
  | ⟨1, _⟩ => exact (Nat.zero_add n.val).symm

/-- The kernel's distance block at (m, n) is the squared distance of first point `m` and second point `n`. -/
theorem dist_apply (x : FVec Ideal S1x3x2048 .f32) (y : FVec Ideal S1x3x256 .f32) (m : Fin 2048) (n : Fin 256) :
    k1_pay2 (F := Ideal) x y (ix2 m n) = sqDist (fun c => x (ix3 (0 : Fin 1) c m)) (fun c => y (ix3 (0 : Fin 1) c n)) := by
  have hx : ∀ c : Fin 3, shapeCast S3x2048 x shapeCasts_S1x3x2048_S3x2048 (ix2 c m) = x (ix3 (0 : Fin 1) c m) :=
    fun c => shapeCast_1ab_ab_apply x _ c m
  have hy : ∀ c : Fin 3, shapeCast S3x256 y shapeCasts_S1x3x256_S3x256 (ix2 c n) = y (ix3 (0 : Fin 1) c n) :=
    fun c => shapeCast_1ab_ab_apply y _ c n
  have hd : ∀ a b a' b' : EReal, a = a' → b = b' → (a - b) * (a - b) = (a' - b') * (a' - b') := by
    rintro a b _ _ rfl rfl; rfl
  exact congrArg₂ (· + ·) (congrArg₂ (· + ·)
    (hd _ _ _ _ ((coordCol_apply _ 0 rfl _ slices_S3x2048_o0_0_S1x2048 m n).trans (hx 0))
      ((coordRow_apply _ 0 rfl _ slices_S3x256_o0_0_S1x256 m n).trans (hy 0)))
    (hd _ _ _ _ ((coordCol_apply _ 1 rfl _ slices_S3x2048_o1_0_S1x2048 m n).trans (hx 1))
      ((coordRow_apply _ 1 rfl _ slices_S3x256_o1_0_S1x256 m n).trans (hy 1))))
    (hd _ _ _ _ ((coordCol_apply _ 2 rfl _ slices_S3x2048_o2_0_S1x2048 m n).trans (hx 2))
      ((coordRow_apply _ 2 rfl _ slices_S3x256_o2_0_S1x256 m n).trans (hy 2)))

/-- One over each column's least value plus a tenth. -/
def recipRow (A : FVec Ideal S2048x256 .f32) : FVec Ideal S1x256 .f32 :=
  divf (broadcast S1x256 (Scalar.ofBits .f32 0x3F800000#32)) (addf (minRow A) (broadcast S1x256 (Scalar.ofBits .f32 0x3DCCCCCD#32)))

/-- A quotient of a splat by a row plus a splat, at an index. -/
theorem splat_div_apply {s : Shape} (c d : EReal) (v : FVec Ideal s .f32) (i : s.Idx) :
    divf (F := Ideal) (φ := .f32) (broadcast s c) (addf (F := Ideal) (φ := .f32) v (broadcast s d)) i = Ideal.div c (v i + d) := rfl

/-- A column's first reciprocal: at the picked row. -/
theorem recipRow_apply (A : FVec Ideal S2048x256 .f32) (u : Fin 1) (n : Fin 256) :
    recipRow A (ix2 u n) = recip (col A n (pick (col A n))) := by
  unfold recip recipRow
  rw [← minRow_apply A u n]
  exact splat_div_apply _ _ _ _

/-- The three reciprocals' sum. -/
def normRow (A : FVec Ideal S2048x256 .f32) : FVec Ideal S1x256 .f32 :=
  addf (addf (recipRow A) (recipRow (knockOut A))) (recipRow (knockOut (knockOut A)))

/-- A row of values broadcast down a block. -/
def spreadRow (v : FVec Ideal S1x256 .f32) : FVec Ideal S2048x256 .f32 :=
  broadcastTo S2048x256 (shapeCast S1x256 v shapeCasts_S1x256_S1x256) broadcasts_S1x256_S2048x256

/-- Every row of the broadcast block is the row. -/
theorem spreadRow_apply (v : FVec Ideal S1x256 .f32) (m : Fin 2048) (n : Fin 256) : spreadRow v (ix2 m n) = v (ix2 (0 : Fin 1) n) := by
  unfold spreadRow
  refine (broadcastTo_1b_ab_apply _ broadcasts_S1x256_S2048x256 m n).trans ?_
  exact shapeCast_apply v shapeCasts_S1x256_S1x256 _ _ rfl

/-- The block of weights: at each column the three reciprocals over their sum, at the three picked rows. -/
def weights (A : FVec Ideal S2048x256 .f32) : FVec Ideal S2048x256 .f32 :=
  select (firstMask (knockOut (knockOut A))) (spreadRow (divf (recipRow (knockOut (knockOut A))) (normRow A)))
    (select (firstMask (knockOut A)) (spreadRow (divf (recipRow (knockOut A)) (normRow A)))
      (select (firstMask A) (spreadRow (divf (recipRow A) (normRow A))) (broadcast S2048x256 (Scalar.ofBits .f32 0x00000000#32))))

/-- The sum of the reciprocals at the three picks of a column with distances `f`. -/
def norm3 (f : Fin 2048 → EReal) : EReal := (recip (f (pick0 f)) + recip (f (pick1 f))) + recip (f (pick2 f))

/-- A quotient of arrays, at an index. -/
theorem divf_at {s : Shape} (x y : FVec Ideal s .f32) (i : s.Idx) : divf x y i = Ideal.div (x i) (y i) := rfl

/-- A sum of arrays, at an index. -/
theorem addf_at {s : Shape} (x y : FVec Ideal s .f32) (i : s.Idx) : addf x y i = x i + y i := rfl

/-- The weights in a column whose distances are below ⊤: each reciprocal over the sum, at its picked row, and 0 elsewhere. -/
theorem weights_apply (A : FVec Ideal S2048x256 .f32) (n : Fin 256) (hf : ∀ m, col A n m < ⊤) (m : Fin 2048) :
    weights A (ix2 m n) = spread (pick0 (col A n)) (pick1 (col A n)) (pick2 (col A n))
      (Ideal.div (recip (col A n (pick0 (col A n)))) (norm3 (col A n)))
      (Ideal.div (recip (col A n (pick1 (col A n)))) (norm3 (col A n)))
      (Ideal.div (recip (col A n (pick2 (col A n)))) (norm3 (col A n))) m := by
  have hN : 3 ≤ 2048 := by decide
  have c1 : col (knockOut A) n = knock (col A n) (pick0 (col A n)) := col_knockOut A n
  have p1 : pick (col (knockOut A) n) = pick1 (col A n) := by rw [c1]; rfl
  have c2 : col (knockOut (knockOut A)) n = knock (knock (col A n) (pick0 (col A n))) (pick1 (col A n)) := by
    rw [col_knockOut, p1, c1]
  have p2 : pick (col (knockOut (knockOut A)) n) = pick2 (col A n) := by rw [c2]; rfl
  have r0 : ∀ u, recipRow A (ix2 u n) = recip (col A n (pick0 (col A n))) := fun u => recipRow_apply A u n
  have r1 : ∀ u, recipRow (knockOut A) (ix2 u n) = recip (col A n (pick1 (col A n))) := fun u => by
    rw [recipRow_apply, p1, c1, knock_of_ne _ (pick1_ne_pick0 hf hN)]
  have r2 : ∀ u, recipRow (knockOut (knockOut A)) (ix2 u n) = recip (col A n (pick2 (col A n))) := fun u => by
    rw [recipRow_apply, p2, c2, knock_of_ne _ (pick2_ne_pick1 hf hN), knock_of_ne _ (pick2_ne_pick0 hf hN)]
  have rn : ∀ u, normRow A (ix2 u n) = norm3 (col A n) := fun u => by
    unfold normRow norm3
    rw [addf_at, addf_at, r0, r1, r2]
  have w0 : spreadRow (divf (recipRow A) (normRow A)) (ix2 m n) = Ideal.div (recip (col A n (pick0 (col A n)))) (norm3 (col A n)) :=
    by
    rw [spreadRow_apply, divf_at, r0 0, rn 0]
  have w1 : spreadRow (divf (recipRow (knockOut A)) (normRow A)) (ix2 m n) = Ideal.div (recip (col A n (pick1 (col A n)))) (norm3 (col A n)) :=
    by
    rw [spreadRow_apply, divf_at, r1 0, rn 0]
  have w2 : spreadRow (divf (recipRow (knockOut (knockOut A))) (normRow A)) (ix2 m n)
      = Ideal.div (recip (col A n (pick2 (col A n)))) (norm3 (col A n)) :=
    by
    rw [spreadRow_apply, divf_at, r2 0, rn 0]
  have z : broadcast S2048x256 (Scalar.ofBits (F := Ideal) .f32 0x00000000#32) (ix2 m n) = (0 : EReal) := by
    rw [broadcast_apply, Ideal.ofBits_def, Ideal.ofBits_zero_f32]
  unfold weights spread
  rw [select_apply, select_apply, select_apply, firstMask_apply, firstMask_apply, firstMask_apply, select_bool, select_bool,
    select_bool, w0, w1, w2, z, p1, p2, show pick (col A n) = pick0 (col A n) from rfl]

/-- The block the interpolation kernel stores, from the blocks it reads. -/
def interpBlock (x : FVec Ideal S1x3x2048 .f32) (y : FVec Ideal S1x3x256 .f32) (p2 : FVec Ideal S1x256x256 .f32)
    (p1 : FVec Ideal S1x256x2048 .f32) (W : FVec Ideal S256x256 .f32) (b : FVec Ideal S256x1 .f32) : FVec Ideal S1x256x256 .f32 :=
  k1_pay1 (F := Ideal) (k1_pay13 (F := Ideal) (k1_pay2 (F := Ideal) x y) rowIota (k1_pay4 (F := Ideal) x y)) (k1_pay14 (F := Ideal) (k1_pay2 (F := Ideal) x y) rowIota (k1_pay4 (F := Ideal) x y))
    (k1_pay15 (F := Ideal) (k1_pay2 (F := Ideal) x y) rowIota (k1_pay3 (F := Ideal) x y) (k1_pay4 (F := Ideal) x y) (k1_pay5 (F := Ideal)))
    (k1_pay16 (F := Ideal) (k1_pay2 (F := Ideal) x y) rowIota (k1_pay3 (F := Ideal) x y) (k1_pay4 (F := Ideal) x y) (k1_pay5 (F := Ideal))) p1 W p2 b

section payloads

variable (x : FVec Ideal S1x3x2048 .f32) (y : FVec Ideal S1x3x256 .f32)

/-- The kernel's named steps, one by one, as the three rounds of minimum, mask and overwriting. -/
theorem pay3_eq : k1_pay3 (F := Ideal) x y = minRow (k1_pay2 (F := Ideal) x y) := rfl
theorem pay4_eq : k1_pay4 (F := Ideal) x y = firstMask (k1_pay2 (F := Ideal) x y) := rfl
theorem pay6_eq (A : FVec Ideal S2048x256 .f32) : k1_pay6 (F := Ideal) (minRow A) (k1_pay5 (F := Ideal)) = recipRow A := rfl
theorem pay7_eq (A : FVec Ideal S2048x256 .f32) : k1_pay7 (F := Ideal) A (firstMask A) = knockOut A := rfl
theorem pay8_eq (A : FVec Ideal S2048x256 .f32) : k1_pay8 (F := Ideal) A (firstMask A) = minRow (knockOut A) := rfl
theorem pay9_eq (A : FVec Ideal S2048x256 .f32) : k1_pay9 (F := Ideal) A rowIota (firstMask A) = firstMask (knockOut A) := rfl
theorem pay10_eq (A : FVec Ideal S2048x256 .f32) : k1_pay10 (F := Ideal) A (firstMask A) = recipRow (knockOut A) := rfl
theorem pay11_eq (A : FVec Ideal S2048x256 .f32) : k1_pay11 (F := Ideal) A rowIota (firstMask A) = knockOut (knockOut A) := rfl
theorem pay12_eq (A : FVec Ideal S2048x256 .f32) : k1_pay12 (F := Ideal) A rowIota (firstMask A) = minRow (knockOut (knockOut A)) := rfl
theorem pay13_eq (A : FVec Ideal S2048x256 .f32) : k1_pay13 (F := Ideal) A rowIota (firstMask A) = firstMask (knockOut (knockOut A)) := rfl
theorem pay14_eq (A : FVec Ideal S2048x256 .f32) : k1_pay14 (F := Ideal) A rowIota (firstMask A) = recipRow (knockOut (knockOut A)) := rfl
theorem pay15_eq (A : FVec Ideal S2048x256 .f32) :
    k1_pay15 (F := Ideal) A rowIota (minRow A) (firstMask A) (k1_pay5 (F := Ideal)) = normRow A := rfl

end payloads

/-- The stored block as two products: the projected points by the weights, and the second points' projection. -/
theorem interpBlock_eq (x : FVec Ideal S1x3x2048 .f32) (y : FVec Ideal S1x3x256 .f32) (p2 : FVec Ideal S1x256x256 .f32)
    (p1 : FVec Ideal S1x256x2048 .f32) (W : FVec Ideal S256x256 .f32) (b : FVec Ideal S256x1 .f32) :
    interpBlock x y p2 p1 W b = shapeCast S1x256x256 (addf
      (matmul (DotDims.plain 256 2048 256) none (shapeCast S256x2048 p1 shapeCasts_S1x256x2048_S256x2048) (weights (k1_pay2 (F := Ideal) x y))
        (constant S256x256 .f32 0x00000000#32))
      (addf (matmul (DotDims.plain 256 256 256) none W (shapeCast S256x256 p2 shapeCasts_S1x256x256_S256x256) (constant S256x256 .f32 0x00000000#32))
        (broadcastTo S256x256 (shapeCast S256x1 b shapeCasts_S256x1_S256x1) broadcasts_S256x1_S256x256))) shapeCasts_S256x256_S1x256x256 := rfl

/-- A plain product from a zero accumulator, at an index. -/
theorem matmul_zero_apply {M K N : ℕ} (lhs : FVec Ideal ⟨2, ![M, K]⟩ .f32) (rhs : FVec Ideal ⟨2, ![K, N]⟩ .f32) (r : Fin M) (c : Fin N) :
    matmul (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  rw [show constant (F := Ideal) ⟨2, ![M, N]⟩ .f32 0x00000000#32 (ix2 r c) = (0 : EReal) from Ideal.ofBits_zero_f32, zero_add]

/-- A one-column array broadcast along rows. -/
theorem broadcast_col_apply {a b : ℕ} (v : FVec Ideal ⟨2, ![a, 1]⟩ .f32) (h0 : (⟨2, ![a, 1]⟩ : Shape).ShapeCasts ⟨2, ![a, 1]⟩)
    (h : (⟨2, ![a, 1]⟩ : Shape).Broadcasts ⟨2, ![a, b]⟩) (p : Fin a) (c : Fin b) :
    broadcastTo ⟨2, ![a, b]⟩ (shapeCast ⟨2, ![a, 1]⟩ v h0) h (ix2 p c) = v (ix2 p (0 : Fin 1)) := by
  refine (broadcastTo_apply _ h (ix2 p c) (ix2 p (0 : Fin 1)) fun ax => ?_).trans (shapeCast_apply v h0 _ _ rfl)
  match ax with
  | ⟨0, _⟩ =>
    show p.val = if a = 1 then 0 else p.val
    split
    · have := p.isLt; omega
    · rfl
  | ⟨1, _⟩ => rfl

/-- The stored block at (0, o, n), when no distance of column `n` is +∞: the three nearest projected points, weighted,
    plus the projected second point. -/
theorem interpBlock_apply (x : FVec Ideal S1x3x2048 .f32) (y : FVec Ideal S1x3x256 .f32) (p2 : FVec Ideal S1x256x256 .f32)
    (p1 : FVec Ideal S1x256x2048 .f32) (W : FVec Ideal S256x256 .f32) (b : FVec Ideal S256x1 .f32) (u : Fin 1) (o n : Fin 256)
    (f : Fin 2048 → EReal) (hfe : ∀ m, f m = sqDist (fun c => x (ix3 (0 : Fin 1) c m)) (fun c => y (ix3 (0 : Fin 1) c n))) (hf : ∀ m, f m < ⊤) :
    interpBlock x y p2 p1 W b (ix3 u o n)
      = (p1 (ix3 (0 : Fin 1) o (pick0 f)) * Ideal.div (recip (f (pick0 f))) (norm3 f)
          + p1 (ix3 (0 : Fin 1) o (pick1 f)) * Ideal.div (recip (f (pick1 f))) (norm3 f)
          + p1 (ix3 (0 : Fin 1) o (pick2 f)) * Ideal.div (recip (f (pick2 f))) (norm3 f))
        + ((∑ k : Fin 256, W (ix2 o k) * p2 (ix3 (0 : Fin 1) k n)) + b (ix2 o (0 : Fin 1))) := by
  have hN : 3 ≤ 2048 := by decide
  have hc : col (k1_pay2 (F := Ideal) x y) n = f := funext fun m => by rw [col_apply, dist_apply, hfe]
  rw [interpBlock_eq]
  refine (shapeCast_ab_1ab_apply _ shapeCasts_S256x256_S1x256x256 u o n).trans ?_
  refine congrArg₂ (· + ·) ?_ (congrArg₂ (· + ·) ?_ ?_)
  · refine (matmul_zero_apply _ _ o n).trans ?_
    rw [← sum_mul_spread (fun m => p1 (ix3 (0 : Fin 1) o m)) (pick1_ne_pick0 hf hN) (pick2_ne_pick0 hf hN) (pick2_ne_pick1 hf hN)]
    refine Finset.sum_congr rfl fun m _ => congrArg₂ (· * ·) (shapeCast_1ab_ab_apply p1 _ o m) ?_
    rw [weights_apply _ n (by rw [hc]; exact hf) m, hc]
  · refine (matmul_zero_apply _ _ o n).trans ?_
    exact Finset.sum_congr rfl fun k _ => congrArg₂ (· * ·) rfl (shapeCast_1ab_ab_apply p2 _ k n)
  · exact broadcast_col_apply b _ _ o n

/-- The projection's stored block as a product plus a broadcast bias. -/
theorem projBlock_eq (W : FVec Ideal S256x256 .f32) (p : FVec Ideal S1x256x2048 .f32) (b : FVec Ideal S256x1 .f32) :
    k0_pay1 (F := Ideal) W p b = shapeCast S1x256x2048 (addf
      (matmul (DotDims.plain 256 256 2048) none W (shapeCast S256x2048 p shapeCasts_S1x256x2048_S256x2048) (constant S256x2048 .f32 0x00000000#32))
      (broadcastTo S256x2048 (shapeCast S256x1 b shapeCasts_S256x1_S256x1) broadcasts_S256x1_S256x2048)) shapeCasts_S256x2048_S1x256x2048 := rfl

/-- The block the projection kernel stores, at (0, o, m): the weights' row against the point's column, plus the bias. -/
theorem projBlock_apply (W : FVec Ideal S256x256 .f32) (p : FVec Ideal S1x256x2048 .f32) (b : FVec Ideal S256x1 .f32)
    (u : Fin 1) (o : Fin 256) (m : Fin 2048) :
    k0_pay1 (F := Ideal) W p b (ix3 u o m) = (∑ k : Fin 256, W (ix2 o k) * p (ix3 (0 : Fin 1) k m)) + b (ix2 o (0 : Fin 1)) := by
  rw [projBlock_eq]
  refine (shapeCast_ab_1ab_apply _ shapeCasts_S256x2048_S1x256x2048 u o m).trans ?_
  refine congrArg₂ (· + ·) ?_ (broadcast_col_apply b _ _ o m)
  refine (matmul_zero_apply (M := 256) (K := 256) (N := 2048) _ _ o m).trans ?_
  exact Finset.sum_congr rfl fun k _ => congrArg₂ (· * ·) rfl (shapeCast_1ab_ab_apply p _ k m)

end Cert.KernelIdeal.Val

end

end
-- ==== Proof.Arrays.lean ====
/- The two arrays the kernel's launches leave, each as one function of the arrays its launch reads: the projected first
   points, and the interpolated result. -/
module

public import proofs.«01_k».proof.Proof.Interp
public import proofs.«01_k».proof.Proof.Gen.KernelIdeal.Frame
public import Idealize.ShloMosaic.Lib.Pipeline.ValueKit.Geometry

@[expose] public section

set_option maxRecDepth 16384

noncomputable section

namespace Cert.KernelIdeal.Val

open Idealize.ShloMosaic Idealize.ShloMosaic.ValueIdx Idealize.ShloMosaic.TcCoe Cert.KernelIdeal Cert.KernelIdeal.Gen Cert.Nearest

/-- Weights times a batch of columns plus a bias, at (batch, row, column). -/
def project {N : ℕ} (W : Vec Ideal S256x256 .f32) (P : Vec Ideal ⟨3, ![4, 256, N]⟩ .f32) (b : Fin 256 → EReal)
    (q : Fin 4) (o : Fin 256) (n : Fin N) : EReal :=
  (∑ k : Fin 256, W (ix2 o k) * P (ix3 q k n)) + b o

/-- The squared distances from second point `n` of batch `q` to every first point. -/
def dists (x : Vec Ideal S4x3x2048 .f32) (y : Vec Ideal S4x3x8192 .f32) (q : Fin 4) (n : Fin 8192) (m : Fin 2048) : EReal :=
  sqDist (fun c => x (ix3 q c m)) (fun c => y (ix3 q c n))

/-- Three values of a row, at the three nearest first points, weighted by the reciprocals over their sum. -/
def interp (p f : Fin 2048 → EReal) : EReal :=
  p (pick0 f) * Ideal.div (recip (f (pick0 f))) (norm3 f) + p (pick1 f) * Ideal.div (recip (f (pick1 f))) (norm3 f)
    + p (pick2 f) * Ideal.div (recip (f (pick2 f))) (norm3 f)

/-- The projected first points as an array. -/
def projArr (W : Vec Ideal S256x256 .f32) (P : Vec Ideal S4x256x2048 .f32) (b : Vec Ideal S256x1 .f32) : Vec Ideal S4x256x2048 .f32 :=
  fun i => project W P (fun o => b (ix2 o (0 : Fin 1))) (i (0 : Fin 3)) (i (1 : Fin 3)) (i (2 : Fin 3))

/-- The result as an array, of the projected first points. -/
def resArr (x : Vec Ideal S4x3x2048 .f32) (y : Vec Ideal S4x3x8192 .f32) (P2 : Vec Ideal S4x256x8192 .f32)
    (p1 : Vec Ideal S4x256x2048 .f32) (W : Vec Ideal S256x256 .f32) (b : Vec Ideal S256x1 .f32) : Vec Ideal S4x256x8192 .f32 :=
  fun i => interp (fun m => p1 (ix3 (i (0 : Fin 3)) (i (1 : Fin 3)) m)) (dists x y (i (0 : Fin 3)) (i (2 : Fin 3)))
    + project W P2 (fun o => b (ix2 o (0 : Fin 1))) (i (0 : Fin 3)) (i (1 : Fin 3)) (i (2 : Fin 3))

/-- The zero offsets of three and of two axes. -/
theorem hz3 : (![0, 0, 0] : Fin 3 → Nat) = fun _ => 0 := funext fun a => by fin_cases a <;> rfl
theorem hz2 : (![0, 0] : Fin 2 → Nat) = fun _ => 0 := funext fun a => by fin_cases a <;> rfl

/-- What the projection's body leaves in its output buffer. -/
theorem out0_eq (x0 : Vec Ideal S1x256x2048 .f32) (x1 : Vec Ideal S256x256 .f32) (x2 : Vec Ideal S256x1 .f32) :
    out0_3 (F := Ideal) x0 x1 x2 = k0_pay1 (F := Ideal) x1 x0 x2 := by
  unfold out0_3
  rw [View.canon_unit_zero (S := S1x256x2048) hz3, View.ld_unit_zero (S := S1x256x2048) hz3, View.ld_unit_zero (S := S256x256) hz2,
    View.ld_unit_zero (S := S256x1) hz2]

/-- What the interpolation's body leaves in its output buffer. -/
theorem out1_eq (x0 : Vec Ideal S1x3x2048 .f32) (x1 : Vec Ideal S1x3x256 .f32) (x2 : Vec Ideal S1x256x256 .f32)
    (x3 : Vec Ideal S1x256x2048 .f32) (x4 : Vec Ideal S256x256 .f32) (x5 : Vec Ideal S256x1 .f32) :
    out1_6 (F := Ideal) x0 x1 x2 x3 x4 x5 = interpBlock x0 x1 x2 x3 x4 x5 := by
  unfold_out out1_6
  rw [View.canon_unit_zero (S := S1x256x256) hz3, View.ld_unit_zero (S := S1x3x2048) hz3, View.ld_unit_zero (S := S1x3x256) hz3,
    View.ld_unit_zero (S := S1x256x256) hz3, View.ld_unit_zero (S := S1x256x2048) hz3, View.ld_unit_zero (S := S256x256) hz2,
    View.ld_unit_zero (S := S256x1) hz2]
  rfl

variable (V : (c : Dev nD) → (b : Ref sig .tc) → Buf (Elt Ideal) ((c : Thread nD τ).loc b))

/-- The projection's block indices at a point: batch `t` of the points and of the result, the whole of the rest. -/
theorem idx0 : ∀ t : Fin cfg0.N, win0_0.index t = ![(grid0.coords t 0).val, 0, 0] ∧ win0_1.index t = ![0, 0]
    ∧ win0_2.index t = ![0, 0] ∧ win0_3.index t = ![(grid0.coords t 0).val, 0, 0] :=
  (by decide +kernel : ∀ t : Fin grid0.N, _)

/-- The interpolation's block indices at a point. -/
theorem idx1 : ∀ t : Fin cfg1.N, win1_0.index t = ![(grid1.coords t 0).val, 0, 0]
    ∧ win1_1.index t = ![(grid1.coords t 0).val, 0, (grid1.coords t 1).val]
    ∧ win1_2.index t = ![(grid1.coords t 0).val, 0, (grid1.coords t 1).val] ∧ win1_3.index t = ![(grid1.coords t 0).val, 0, 0]
    ∧ win1_4.index t = ![0, 0] ∧ win1_5.index t = ![0, 0]
    ∧ win1_6.index t = ![(grid1.coords t 0).val, 0, (grid1.coords t 1).val] :=
  (by decide +kernel : ∀ t : Fin grid1.N, _)

/-- The projected first points after the first launch. -/
theorem proj_final (c : Dev nD) :
    (dat0 V c).arrAt 3 cfg0.N = projArr (V c main_arg4) (V c main_arg2) (V c main_v0) := by
  refine (dat0 V c).arrAt_eq_of_covers 3 _ (by decide +kernel) fun t hf y => ?_
  obtain ⟨e0, e1, e2, e3⟩ := idx0 t
  blk_simp
  rw [after0_3, out0_eq]
  obtain ⟨u, o, n, rfl⟩ : ∃ (u : Fin 1) (o : Fin 256) (n : Fin 2048), y = ix3 u o n := ⟨_, _, _, eq_ix3 y⟩
  refine (projBlock_apply _ _ _ u o n).trans ?_
  have E3 : (win0_3.blk t).view.emb (ix3 u o n) = (ix3 (grid0.coords t 0) o n : S4x256x2048.Idx) := by
    have := u.isLt; blk_ext [e3]
  have E2 : (win0_2.blk t).view.emb (ix2 o (0 : Fin 1)) = (ix2 o (0 : Fin 1) : S256x1.Idx) := by blk_ext [e2]
  have E1 (k : Fin 256) : (win0_1.blk t).view.emb (ix2 o k) = (ix2 o k : S256x256.Idx) := by blk_ext [e1]
  have E0 (k : Fin 256) : (win0_0.blk t).view.emb (ix3 (0 : Fin 1) k n) = (ix3 (grid0.coords t 0) k n : S4x256x2048.Idx) := by
    blk_ext [e0]
  blk_simp [iblk0]
  rw [E3]
  simp only [E0, E1, E2]
  rfl

/-- Column `n` of the point's block, in the whole array. -/
def colAt (t : Fin cfg1.N) (n : Fin 256) : Fin 8192 :=
  ⟨(grid1.coords t 1).val * 256 + n.val, by have h : (grid1.coords t 1).val < 32 := (grid1.coords t 1).isLt; have := n.isLt; omega⟩

/-- The result after the second launch, every distance being below ⊤. -/
theorem res_final (c : Dev nD) (hlt : ∀ q n m, dists (V c main_arg0) (V c main_arg1) q n m < ⊤) :
    (dat1 V c).arrAt 6 cfg1.N
      = resArr (V c main_arg0) (V c main_arg1) (V c main_arg3) (V c main_v2) (V c main_arg6) (V c main_v1) := by
  refine (dat1 V c).arrAt_eq_of_covers 6 _ (by decide +kernel) fun t hf y => ?_
  obtain ⟨e0, e1, e2, e3, e4, e5, e6⟩ := idx1 t
  blk_simp
  rw [after1_6, out1_eq]
  obtain ⟨u, o, n, rfl⟩ : ∃ (u : Fin 1) (o n : Fin 256), y = ix3 u o n := ⟨_, _, _, eq_ix3 y⟩
  have E6 : (win1_6.blk t).view.emb (ix3 u o n) = (ix3 (grid1.coords t 0) o (colAt t n) : S4x256x8192.Idx) := by
    have := u.isLt; blk_ext [e6, colAt]
  have E5 : (win1_5.blk t).view.emb (ix2 o (0 : Fin 1)) = (ix2 o (0 : Fin 1) : S256x1.Idx) := by blk_ext [e5]
  have E4 (k : Fin 256) : (win1_4.blk t).view.emb (ix2 o k) = (ix2 o k : S256x256.Idx) := by blk_ext [e4]
  have E3 (m : Fin 2048) : (win1_3.blk t).view.emb (ix3 (0 : Fin 1) o m) = (ix3 (grid1.coords t 0) o m : S4x256x2048.Idx) := by
    blk_ext [e3]
  have E2 (k : Fin 256) : (win1_2.blk t).view.emb (ix3 (0 : Fin 1) k n) = (ix3 (grid1.coords t 0) k (colAt t n) : S4x256x8192.Idx) := by
    blk_ext [e2, colAt]
  have E1 (k : Fin 3) : (win1_1.blk t).view.emb (ix3 (0 : Fin 1) k n) = (ix3 (grid1.coords t 0) k (colAt t n) : S4x3x8192.Idx) := by
    blk_ext [e1, colAt]
  have E0 (k : Fin 3) (m : Fin 2048) : (win1_0.blk t).view.emb (ix3 (0 : Fin 1) k m) = (ix3 (grid1.coords t 0) k m : S4x3x2048.Idx) := by
    blk_ext [e0]
  refine (interpBlock_apply _ _ _ _ _ _ u o n (dists (V c main_arg0) (V c main_arg1) (grid1.coords t 0) (colAt t n)) (fun m => ?_)
    (hlt _ _)).trans ?_
  · blk_simp [iblk1]
    simp only [E0, E1]
    rfl
  · blk_simp [iblk1]
    rw [E6]
    simp only [E2, E3, E4, E5]
    rfl

end Cert.KernelIdeal.Val
-- ==== Proof.RefDist.lean ====
/- The reference's distances and projections at an index, at the ideal values and real coordinates: the same squared
   distances and the same products the kernel computes. -/
module

public import proofs.«01_k».proof.Proof.Arrays
public import proofs.«01_k».proof.Proof.Gen.ReferenceIdeal.Read

@[expose] public section

noncomputable section

namespace Cert.ReferenceIdeal.Val

open Idealize.ShloMosaic Idealize.ShloMosaic.ValueIdx Cert.ReferenceIdeal Cert.ReferenceIdeal.Read Cert.KernelIdeal.Val Cert.Nearest

/-- Every entry of an array is a real number. -/
def Reals {s : Shape} (x : FVec Ideal s .f32) : Prop := ∀ i, ∃ r : ℝ, x i = (r : EReal)

/-- The square of a difference of reals does not depend on the order. -/
theorem sq_sub_comm (a b : ℝ) : ((b : EReal) - a) * ((b : EReal) - a) = ((a : EReal) - b) * ((a : EReal) - b) := by
  rw [← EReal.coe_sub, ← EReal.coe_mul, ← EReal.coe_sub, ← EReal.coe_mul]
  exact congrArg _ (by ring)

/-- Squared distances of real points are below ⊤. -/
theorem dists_lt_top (x : FVec Ideal S4x3x2048 .f32) (y : FVec Ideal S4x3x8192 .f32) (hx : Reals x) (hy : Reals y)
    (q : Fin 4) (n : Fin 8192) (m : Fin 2048) : dists x y q n m < ⊤ := by
  have h (c : Fin 3) : ∃ r : ℝ, (x (ix3 q c m) - y (ix3 q c n)) * (x (ix3 q c m) - y (ix3 q c n)) = (r : EReal) := by
    obtain ⟨a, ha⟩ := hx (ix3 q c m)
    obtain ⟨b, hb⟩ := hy (ix3 q c n)
    exact ⟨(a - b) * (a - b), by rw [ha, hb, EReal.coe_mul, EReal.coe_sub]⟩
  obtain ⟨r0, e0⟩ := h 0
  obtain ⟨r1, e1⟩ := h 1
  obtain ⟨r2, e2⟩ := h 2
  unfold dists sqDist
  rw [e0, e1, e2, ← EReal.coe_add, ← EReal.coe_add]
  exact EReal.coe_lt_top _

/-- One coordinate's squared difference, as the reference computes it. -/
theorem sq_read (x : FVec Ideal S4x3x2048 .f32) (y : FVec Ideal S4x3x8192 .f32) (hx : Reals x) (hy : Reals y)
    (q : Fin 4) (n : Fin 8192) (m : Fin 2048) (c : Fin 3) :
    val_main_v17 (F := Ideal) x y (idx_main_v18 (ix3 q n m) c)
      = (x (ix3 q c m) - y (ix3 q c n)) * (x (ix3 q c m) - y (ix3 q c n)) := by
  have ex : idx_main_v11 (idx_main_v13 (idx_main_v15 (idx_main_v18 (ix3 q n m) c))) = ix3 q c m :=
    funext fun a => by match a with | ⟨0, _⟩ => rfl | ⟨1, _⟩ => rfl | ⟨2, _⟩ => rfl
  have ey : idx_main_v10 (idx_main_v12 (idx_main_v14 (idx_main_v18 (ix3 q n m) c))) = ix3 q c n :=
    funext fun a => by match a with | ⟨0, _⟩ => rfl | ⟨1, _⟩ => rfl | ⟨2, _⟩ => rfl
  rw [val_main_v17_apply, val_main_v16_apply, val_main_v15_apply, val_main_v14_apply, val_main_v13_apply, val_main_v12_apply,
    val_main_v11_apply, val_main_v10_apply, ex, ey, Ideal.mulf_def, Ideal.subf_def]
  obtain ⟨a, ha⟩ := hx (ix3 q c m)
  obtain ⟨b, hb⟩ := hy (ix3 q c n)
  rw [ha, hb]
  exact sq_sub_comm a b

/-- The reference's distances. -/
theorem dist_read (x : FVec Ideal S4x3x2048 .f32) (y : FVec Ideal S4x3x8192 .f32) (hx : Reals x) (hy : Reals y)
    (q : Fin 4) (n : Fin 8192) (m : Fin 2048) : val_main_v18 (F := Ideal) x y (ix3 q n m) = dists x y q n m := by
  rw [val_main_v18_apply, val_main_cst_apply, Ideal.ofBits_def, Ideal.ofBits_zero_f32, zero_add, Fin.sum_univ_three,
    sq_read x y hx hy, sq_read x y hx hy, sq_read x y hx hy]
  rfl

/-- The reference's negated distances. -/
theorem negDist_read (x : FVec Ideal S4x3x2048 .f32) (y : FVec Ideal S4x3x8192 .f32) (hx : Reals x) (hy : Reals y)
    (q : Fin 4) (n : Fin 8192) (m : Fin 2048) : val_main_v19 (F := Ideal) x y (ix3 q n m) = -dists x y q n m := by
  rw [val_main_v19_apply, dist_read x y hx hy]
  rfl

/-- The reference's projected first points. -/
theorem proj1_read (P : FVec Ideal S4x256x2048 .f32) (W : FVec Ideal S256x256 .f32) (b : FVec Ideal S256 .f32)
    (q : Fin 4) (o : Fin 256) (m : Fin 2048) :
    val_main_v4 (F := Ideal) P W b (ix3 q o m) = project W P (fun o => b (ix1 o)) q o m := by
  have eb : idx_main_v2 (idx_main_v3 (ix3 q o m)) = ix1 o := funext fun a => by match a with | ⟨0, _⟩ => rfl
  have el (k : Fin 256) : lidx_main_v0 (idx_main_v1 (ix3 q o m)) k = ix3 q k m :=
    funext fun a => by match a with | ⟨0, _⟩ => rfl | ⟨1, _⟩ => rfl | ⟨2, _⟩ => rfl
  have er (k : Fin 256) : ridx_main_v0 (idx_main_v1 (ix3 q o m)) k = ix2 o k :=
    funext fun a => by match a with | ⟨0, _⟩ => rfl | ⟨1, _⟩ => rfl
  rw [val_main_v4_apply, val_main_v3_apply, val_main_v2_apply, val_main_v1_apply, val_main_v0_apply, eb, Ideal.addf_def]
  unfold project
  refine congrArg (· + b (ix1 o)) (Finset.sum_congr rfl fun k _ => ?_)
  rw [el, er, mul_comm]

/-- The reference's projected second points. -/
theorem proj2_read (P : FVec Ideal S4x256x8192 .f32) (W : FVec Ideal S256x256 .f32) (b : FVec Ideal S256 .f32)
    (q : Fin 4) (o : Fin 256) (n : Fin 8192) :
    val_main_v9 (F := Ideal) P W b (ix3 q o n) = project W P (fun o => b (ix1 o)) q o n := by
  have eb : idx_main_v7 (idx_main_v8 (ix3 q o n)) = ix1 o := funext fun a => by match a with | ⟨0, _⟩ => rfl
  have el (k : Fin 256) : lidx_main_v5 (idx_main_v6 (ix3 q o n)) k = ix3 q k n :=
    funext fun a => by match a with | ⟨0, _⟩ => rfl | ⟨1, _⟩ => rfl | ⟨2, _⟩ => rfl
  have er (k : Fin 256) : ridx_main_v5 (idx_main_v6 (ix3 q o n)) k = ix2 o k :=
    funext fun a => by match a with | ⟨0, _⟩ => rfl | ⟨1, _⟩ => rfl
  rw [val_main_v9_apply, val_main_v8_apply, val_main_v7_apply, val_main_v6_apply, val_main_v5_apply, eb, Ideal.addf_def]
  unfold project
  refine congrArg (· + b (ix1 o)) (Finset.sum_congr rfl fun k _ => ?_)
  rw [el, er, mul_comm]

end Cert.ReferenceIdeal.Val
-- ==== Proof.RefSelect.lean ====
/- The reference's three nearest points at the ideal values: the top-3 of the negated distances are the three picks with
   their distances, and the gather reads the projected points at the picked columns. -/
module

public import proofs.«01_k».proof.Proof.RefDist

@[expose] public section

noncomputable section

namespace Cert.ReferenceIdeal.Val

open Idealize.ShloMosaic Idealize.ShloMosaic.ValueIdx Cert.ReferenceIdeal Cert.ReferenceIdeal.Gen Cert.ReferenceIdeal.Read Cert.KernelIdeal.Val Cert.Nearest

/-- An index with its last coordinate replaced. -/
theorem along_ix3 {a b N : ℕ} (q : Fin a) (n : Fin b) (m k : Fin N) (hd : 2 < (⟨3, ![a, b, N]⟩ : Shape).rank) :
    (ix3 q n m).along (⟨2, hd⟩ : Fin (⟨3, ![a, b, N]⟩ : Shape).rank) k = ix3 q n k := by
  funext ax
  unfold Shape.Idx.along
  match ax with
  | ⟨0, _⟩ => exact Function.update_of_ne (fun h => absurd (congrArg Fin.val h) (Nat.ne_of_lt Nat.zero_lt_two)) _ _
  | ⟨1, _⟩ => exact Function.update_of_ne (fun h => absurd (congrArg Fin.val h) (Nat.ne_of_lt Nat.one_lt_two)) _ _
  | ⟨2, _⟩ => exact Function.update_self _ _ _

/-- The greater of two negated numbers is the one whose number is smaller. -/
theorem gt_neg (x y : EReal) : (FloatOps.cmpfTotal (F := Ideal) (φ := .f32) .gt (-x) (-y) == 1#1) = decide (x < y) := by
  show (BitVec.ofBool (decide (-y < -x)) == 1#1) = decide (x < y)
  rw [show decide (-y < -x) = decide (x < y) from decide_eq_decide.mpr EReal.neg_lt_neg_iff]
  cases decide (x < y) <;> rfl

/-- The top three of a line of negated numbers: the three picks, each with its position. -/
theorem top3_read {a b N : ℕ} [NeZero N] (g : FVec Ideal ⟨3, ![a, b, N]⟩ .f32) (f : Fin N → EReal) (q : Fin a) (n : Fin b)
    (hg : ∀ k, g (ix3 q n k) = -f k) (hf : ∀ k, f k < ⊤) (hN : 3 ≤ N)
    (hs : (⟨3, ![a, b, N]⟩ : Shape).Slices (fun _ => 0) ⟨3, ![a, b, 3]⟩) (j : Fin 3) :
    (Host.topK ⟨3, ![a, b, 3]⟩ 2 (FloatOps.cmpfTotal .gt) g hs).1 (ix3 q n j) = -f (picks f j)
      ∧ (Host.topK ⟨3, ![a, b, 3]⟩ 2 (FloatOps.cmpfTotal .gt) g hs).2 (ix3 q n j) = BitVec.ofNat 32 (picks f j).val := by
  have hd : 2 < (⟨3, ![a, b, N]⟩ : Shape).rank := Nat.lt_succ_self 2
  have hk (i : (⟨3, ![a, b, N]⟩ : Shape).Idx → BitVec 32) :
      sortedFrom (n := N) (fun k k' => FloatOps.cmpfTotal (F := Ideal) (φ := .f32) .gt
          (g ((ix3 q n (j.castLE hN)).along ⟨2, hd⟩ k), i ((ix3 q n (j.castLE hN)).along ⟨2, hd⟩ k)).1
          (g ((ix3 q n (j.castLE hN)).along ⟨2, hd⟩ k'), i ((ix3 q n (j.castLE hN)).along ⟨2, hd⟩ k')).1 == 1#1) (j.castLE hN)
        = picks f j := by
    rw [← sortedFrom_eq_picks hf hN j]
    refine congrFun (congrArg sortedFrom (funext fun k => funext fun k' => ?_)) _
    rw [along_ix3, along_ix3, hg, hg, gt_neg]
  have hslice {α : Type} (v : (⟨3, ![a, b, N]⟩ : Shape).Idx → α) :
      extractStridedSlice ⟨3, ![a, b, 3]⟩ (fun _ => 0) v hs (ix3 q n j) = v (ix3 q n (j.castLE hN)) :=
    extractStridedSlice_apply _ v hs _ _ fun ax => by
      match ax with
      | ⟨0, _⟩ => exact (Nat.zero_add _).symm
      | ⟨1, _⟩ => exact (Nat.zero_add _).symm
      | ⟨2, _⟩ => exact (Nat.zero_add _).symm
  have hsort (p : (⟨3, ![a, b, N]⟩ : Shape).Idx → BitVec 32) :
      (Host.sort2 ⟨3, ![a, b, N]⟩ 2 (fun l r => FloatOps.cmpfTotal .gt l.1 r.1) g p).1 (ix3 q n (j.castLE hN)) = g (ix3 q n (picks f j))
        ∧ (Host.sort2 ⟨3, ![a, b, N]⟩ 2 (fun l r => FloatOps.cmpfTotal .gt l.1 r.1) g p).2 (ix3 q n (j.castLE hN))
          = p (ix3 q n (picks f j)) := by
    unfold Host.sort2
    rw [dif_pos hd]
    exact ⟨(congrArg (fun c : Fin N => g ((ix3 q n (j.castLE hN)).along ⟨2, hd⟩ c)) (hk p)).trans (congrArg g (along_ix3 q n _ _ hd)),
      (congrArg (fun c : Fin N => p ((ix3 q n (j.castLE hN)).along ⟨2, hd⟩ c)) (hk p)).trans (congrArg p (along_ix3 q n _ _ hd))⟩
  obtain ⟨h1, h2⟩ := hsort fun i => if hd : 2 < (⟨3, ![a, b, N]⟩ : Shape).rank then iotaInDim ⟨3, ![a, b, N]⟩ 32 ⟨2, hd⟩ i else 0#32
  refine ⟨((hslice _).trans h1).trans (hg _), ((hslice _).trans h2).trans ?_⟩
  rw [dif_pos hd]
  rfl

variable (x : FVec Ideal S4x3x2048 .f32) (y : FVec Ideal S4x3x8192 .f32) (hx : Reals x) (hy : Reals y)

include hx hy

/-- The reference's top values: the negated distances of the three picks. -/
theorem values_read (q : Fin 4) (n : Fin 8192) (j : Fin 3) :
    val_main_values (F := Ideal) x y (ix3 q n j) = -dists x y q n (picks (dists x y q n) j) :=
  (top3_read (val_main_v19 (F := Ideal) x y) (dists x y q n) q n (negDist_read x y hx hy q n) (dists_lt_top x y hx hy q n) (by decide)
    sliceFits_S4x8192x2048_S4x8192x3 j).1

/-- The reference's top indices: the three picks as words. -/
theorem indices_read (q : Fin 4) (n : Fin 8192) (j : Fin 3) :
    val_main_indices (F := Ideal) x y (ix3 q n j) = BitVec.ofNat 32 (picks (dists x y q n) j).val :=
  (top3_read (val_main_v19 (F := Ideal) x y) (dists x y q n) q n (negDist_read x y hx hy q n) (dists_lt_top x y hx hy q n) (by decide)
    sliceFits_S4x8192x2048_S4x8192x3 j).2

omit hx hy in
/-- A word of a position below 2048 is not negative. -/
theorem slt_zero (k : Fin 2048) : IntOp.cmpi .slt (BitVec.ofNat 32 k.val) 0#32 = 0#1 := by
  revert k; decide +kernel

omit hx hy in
/-- A word of a position below 2048, read signed. -/
theorem toInt_word (k : Fin 2048) : (BitVec.ofNat 32 k.val).toInt.toNat = k.val := by
  revert k; decide +kernel

/-- The start indices of the gather: no index is negative, so none is moved. -/
theorem starts_read (q : Fin 4) (n : Fin 8192) (j : Fin 3) (u : Fin 1) :
    val_main_v34 (F := Ideal) x y (ix4 q n j u) = BitVec.ofNat 32 (picks (dists x y q n) j).val := by
  have e : idx_main_v34 (ix4 q n j u) = ix3 q n j := funext fun a => by match a with | ⟨0, _⟩ => rfl | ⟨1, _⟩ => rfl | ⟨2, _⟩ => rfl
  rw [val_main_v34_apply, e, val_main_v33_apply, val_main_v30_apply, val_main_v29_apply, val_main_c_apply, indices_read x y hx hy,
    slt_zero]
  rfl

omit hx hy in
/-- The gather of a line of 2048 rows: the operand at the row the start index names. -/
theorem gather_read {α : Type} (v : S4x256x2048.Idx → α) (idx : IVec S4x8192x3x1 32) (q : Fin 4) (o : Fin 256) (n : Fin 8192) (j : Fin 3)
    (k : Fin 2048) (hk : idx (ix4 q n j (0 : Fin 1)) = BitVec.ofNat 32 k.val) :
    Host.gather gather_S4x256x2048_S4x8192x3x1_S4x256x8192x3_1_2_0_0_2_3_12561 v idx (ix4 q o n j) = v (ix3 q o k) := by
  unfold Host.gather
  refine congrArg v (funext fun a => Fin.ext ?_)
  show GatherDims.start _ (ix4 q o n j) idx a + GatherDims.batchCoord _ (ix4 q o n j) a + GatherDims.offCoord _ (ix4 q o n j) a = _
  match a with
  | ⟨0, _⟩ =>
    show GatherDims.start (s := S4x256x2048) _ (ix4 q o n j) idx (0 : Fin 3) + GatherDims.batchCoord (s := S4x256x2048) _ (ix4 q o n j) (0 : Fin 3) + GatherDims.offCoord (s := S4x256x2048) _ (ix4 q o n j) (0 : Fin 3) = q.val
    rw [GatherDims.start_batching _ _ _ _ (by decide), GatherDims.offCoord_eq_zero _ _ _ (by decide)]
    show 0 + q.val + 0 = q.val
    omega
  | ⟨1, _⟩ =>
    show GatherDims.start (s := S4x256x2048) _ (ix4 q o n j) idx (1 : Fin 3) + GatherDims.batchCoord (s := S4x256x2048) _ (ix4 q o n j) (1 : Fin 3) + GatherDims.offCoord (s := S4x256x2048) _ (ix4 q o n j) (1 : Fin 3) = o.val
    rw [GatherDims.batchCoord_eq_zero _ _ _ (by decide)]
    unfold GatherDims.start
    rw [dif_neg (by decide)]
    show 0 + 0 + o.val = o.val
    omega
  | ⟨2, _⟩ =>
    show GatherDims.start (s := S4x256x2048) _ (ix4 q o n j) idx (2 : Fin 3) + GatherDims.batchCoord (s := S4x256x2048) _ (ix4 q o n j) (2 : Fin 3) + GatherDims.offCoord (s := S4x256x2048) _ (ix4 q o n j) (2 : Fin 3) = k.val
    rw [GatherDims.batchCoord_eq_zero _ _ _ (by decide), GatherDims.offCoord_eq_zero _ _ _ (by decide)]
    unfold GatherDims.start
    rw [dif_pos (by decide)]
    refine (congrArg (fun w : BitVec 32 => min w.toInt.toNat 2047 + 0 + 0) ((congrArg idx (funext fun b => Fin.ext ?_)).trans hk)).trans ?_
    · match b with
      | ⟨0, _⟩ => rfl
      | ⟨1, _⟩ => rfl
      | ⟨2, _⟩ => rfl
      | ⟨3, _⟩ => rfl
    · have := k.isLt
      show min (BitVec.ofNat 32 k.val).toInt.toNat 2047 + 0 + 0 = k.val
      rw [toInt_word]
      omega

/-- The gathered points: the projected points at the picked columns. -/
theorem gathered_read (P : FVec Ideal S4x256x2048 .f32) (W : FVec Ideal S256x256 .f32) (b : FVec Ideal S256 .f32)
    (q : Fin 4) (o : Fin 256) (n : Fin 8192) (j : Fin 3) :
    val_main_v35 (F := Ideal) x y P W b (ix4 q o n j) = project W P (fun o => b (ix1 o)) q o (picks (dists x y q n) j) :=
  (gather_read _ _ q o n j _ (starts_read x y hx hy q n j 0)).trans (proj1_read P W b q o _)

end Cert.ReferenceIdeal.Val
-- ==== Proof.KernelRun.lean ====
/- The kernel's run at the ideal values with its result array named: the interpolation of the projected first points plus
   the projected second points, at every index. -/
module

public import proofs.«01_k».proof.Proof.Arrays

@[expose] public section

set_option maxRecDepth 16384

noncomputable section

namespace Cert.KernelIdeal.Val

open Idealize.ShloMosaic Idealize.ShloMosaic.ValueIdx Idealize.ShloMosaic.TcCoe Cert.KernelIdeal Cert.KernelIdeal.Gen Cert.Nearest
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The result as an array, of the argument arrays. -/
def result (x : Vec Ideal S4x3x2048 .f32) (y : Vec Ideal S4x3x8192 .f32) (P1 : Vec Ideal S4x256x2048 .f32)
    (P2 : Vec Ideal S4x256x8192 .f32) (W1 : Vec Ideal S256x256 .f32) (b1 : Vec Ideal S256 .f32) (W2 : Vec Ideal S256x256 .f32)
    (b2 : Vec Ideal S256 .f32) : Vec Ideal S4x256x8192 .f32 :=
  fun i => interp (fun m => project W1 P1 (fun o => b1 (ix1 o)) (i (0 : Fin 3)) (i (1 : Fin 3)) m) (dists x y (i (0 : Fin 3)) (i (2 : Fin 3)))
    + project W2 P2 (fun o => b2 (ix1 o)) (i (0 : Fin 3)) (i (1 : Fin 3)) (i (2 : Fin 3))

variable (m : (ℓ : Loc nD τ sig) → Buf (Elt Ideal) ℓ) (ρ : Dev nD → PrngReg)

/-- A vector reshaped to one column, at a row. -/
theorem column_apply (b : Vec Ideal S256 .f32) (o : Fin 256) :
    shapeCast S256x1 b shapeCasts_S256_S256x1 (ix2 o (0 : Fin 1)) = b (ix1 o) :=
  shapeCast_a_a1_apply b shapeCasts_S256_S256x1 o 0

/-- The interpolated result of the projected first points, both biases given as columns, is the result of the arguments. -/
theorem resArr_column (x : Vec Ideal S4x3x2048 .f32) (y : Vec Ideal S4x3x8192 .f32) (P1 : Vec Ideal S4x256x2048 .f32)
    (P2 : Vec Ideal S4x256x8192 .f32) (W1 : Vec Ideal S256x256 .f32) (b1 : Vec Ideal S256 .f32) (W2 : Vec Ideal S256x256 .f32)
    (b2 : Vec Ideal S256 .f32) :
    resArr x y P2 (projArr W1 P1 (shapeCast S256x1 b1 shapeCasts_S256_S256x1)) W2 (shapeCast S256x1 b2 shapeCasts_S256_S256x1)
      = result x y P1 P2 W1 b1 W2 b2 := by
  have hb (b : Vec Ideal S256 .f32) : (fun o : Fin 256 => shapeCast S256x1 b shapeCasts_S256_S256x1 (ix2 o (0 : Fin 1)))
      = fun o => b (ix1 o) := funext (column_apply b)
  have hp : projArr W1 P1 (shapeCast S256x1 b1 shapeCasts_S256_S256x1)
      = fun i => project W1 P1 (fun o => b1 (ix1 o)) (i (0 : Fin 3)) (i (1 : Fin 3)) (i (2 : Fin 3)) := by
    unfold projArr; rw [hb]
  unfold resArr
  rw [hp, hb]
  rfl

/-- The first bias as the first launch finds it. -/
theorem bias1 (c : Dev nD) : V1 m ρ c main_v0 = shapeCast S256x1 (m ((c : Thread nD τ).loc main_arg5)) shapeCasts_S256_S256x1 := by
  show StableHlo.after hostOps0 (W0 m ρ c) (Proc.devRef .tc main_v0) = _
  after_results
  rfl

/-- The second bias as the second launch finds it. -/
theorem bias2 (c : Dev nD) : V2 m ρ c main_v1 = shapeCast S256x1 (m ((c : Thread nD τ).loc main_arg7)) shapeCasts_S256_S256x1 := by
  refine (W2_of_ne m ρ c main_v1 (by decide)).trans ?_
  show StableHlo.after hostOps0 (W0 m ρ c) (Proc.devRef .tc main_v1) = _
  after_results
  rfl

/-- The projected first points as the second launch finds them. -/
theorem projected (c : Dev nD) : V2 m ρ c main_v2
    = projArr (m ((c : Thread nD τ).loc main_arg4)) (m ((c : Thread nD τ).loc main_arg2))
        (shapeCast S256x1 (m ((c : Thread nD τ).loc main_arg5)) shapeCasts_S256_S256x1) := by
  refine (W2_arr m ρ c 3).trans ((proj_final (V1 m ρ) c).trans ?_)
  rw [bias1]
  exact congrArg₂ (fun W P => projArr W P _) (W1_args m ρ c main_arg4 (by decide)) (W1_args m ρ c main_arg2 (by decide))

/-- The result array at the end of the run. -/
theorem final (c : Dev nD)
    (hlt : ∀ q n k, dists (m ((c : Thread nD τ).loc main_arg0)) (m ((c : Thread nD τ).loc main_arg1)) q n k < ⊤) :
    W3 m ρ c (Proc.devRef .tc main_v3)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have a0 : V2 m ρ c main_arg0 = m ((c : Thread nD τ).loc main_arg0) := W2_args m ρ c main_arg0 (by decide)
  have a1 : V2 m ρ c main_arg1 = m ((c : Thread nD τ).loc main_arg1) := W2_args m ρ c main_arg1 (by decide)
  have a3 : V2 m ρ c main_arg3 = m ((c : Thread nD τ).loc main_arg3) := W2_args m ρ c main_arg3 (by decide)
  have a6 : V2 m ρ c main_arg6 = m ((c : Thread nD τ).loc main_arg6) := W2_args m ρ c main_arg6 (by decide)
  refine (W3_arr m ρ c 6).trans ((res_final (V2 m ρ) c (by rw [a0, a1]; exact hlt)).trans ?_)
  rw [a0, a1, a3, a6, projected, bias2]
  exact resArr_column _ _ _ _ _ _ _ _

set_option backward.isDefEq.respectTransparency.types false in
/-- Every run of the kernel ends with the result array at `result` of the arguments and the arguments as launched. -/
theorem run (hlt : ∀ (c : Dev nD) q n k, dists (m ((c : Thread nD τ).loc main_arg0)) (m ((c : Thread nD τ).loc main_arg1)) q n k < ⊤) :
    θ_run defs (onTc (τ := τ) (main (F := Ideal))) ⟨m, fun _ => 0, ρ⟩ (fun r => ∀ c : Dev nD,
      r.2.mem ((c.tc : Thread nD τ).loc main_v3)
        = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v3 (by decide))).trans (final m ρ c (hlt c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Val
-- ==== Proof.RefValue.lean ====
/- The reference's result at the ideal values and real coordinates: the interpolation of the projected first points plus the
   projected second points, the same array the kernel ends with. -/
module

public import proofs.«01_k».proof.Proof.RefSelect
public import proofs.«01_k».proof.Proof.KernelRun

@[expose] public section

noncomputable section

namespace Cert.ReferenceIdeal.Val

open Idealize.ShloMosaic Idealize.ShloMosaic.ValueIdx Cert.ReferenceIdeal Cert.ReferenceIdeal.Gen Cert.ReferenceIdeal.Read Cert.KernelIdeal.Val Cert.Nearest

variable (x : FVec Ideal S4x3x2048 .f32) (y : FVec Ideal S4x3x8192 .f32) (hx : Reals x) (hy : Reals y)

/-- A negated negation plus a shift, then divided into one: the reciprocal the weights are built of. -/
theorem recip_host (d : EReal) :
    FloatOps.hostDivf (F := Ideal) (φ := .f32) (FloatOps.ofBits (F := Ideal) .f32 0x3F800000#32)
      (FloatOps.addf (F := Ideal) (φ := .f32) (FloatOps.hostNegf (F := Ideal) (φ := .f32) (-d)) (FloatOps.ofBits (F := Ideal) .f32 0x3DCCCCCD#32))
      = recip d := by
  show Ideal.div _ (- -d + _) = recip d
  rw [neg_neg]
  rfl

/-- A quotient of the host at the ideal values. -/
theorem hostDiv_ideal (a b : EReal) : FloatOps.hostDivf (F := Ideal) (φ := .f32) a b = Ideal.div a b := rfl

include hx hy

/-- The reciprocals of the three nearest distances. -/
theorem recip_read (q : Fin 4) (n : Fin 8192) (j : Fin 3) :
    val_main_v24 (F := Ideal) x y (ix3 q n j) = recip (dists x y q n (picks (dists x y q n) j)) := by
  rw [val_main_v24_apply, val_main_v23_apply, val_main_v22_apply, val_main_v21_apply, val_main_v20_apply, values_read x y hx hy,
    val_main_cst_1_apply, val_main_cst_0_apply]
  exact recip_host _

/-- Their sum. -/
theorem norm_read (q : Fin 4) (n : Fin 8192) : val_main_v25 (F := Ideal) x y (ix2 q n) = norm3 (dists x y q n) := by
  have e (k : Fin 3) : idx_main_v25 (ix2 q n) k = ix3 q n k :=
    funext fun a => by match a with | ⟨0, _⟩ => rfl | ⟨1, _⟩ => rfl | ⟨2, _⟩ => rfl
  rw [val_main_v25_apply, Fin.sum_univ_three, e, e, e, recip_read x y hx hy, recip_read x y hx hy, recip_read x y hx hy,
    val_main_cst_2_apply, Ideal.ofBits_def, Ideal.ofBits_zero_f32, zero_add]
  rfl

/-- The weights: each reciprocal over the sum. -/
theorem weight_read (q : Fin 4) (n : Fin 8192) (j : Fin 3) :
    val_main_v28 (F := Ideal) x y (ix3 q n j)
      = Ideal.div (recip (dists x y q n (picks (dists x y q n) j))) (norm3 (dists x y q n)) := by
  have e : idx_main_v26 (idx_main_v27 (ix3 q n j)) = ix2 q n := funext fun a => by match a with | ⟨0, _⟩ => rfl | ⟨1, _⟩ => rfl
  rw [val_main_v28_apply, val_main_v27_apply, val_main_v26_apply, e, recip_read x y hx hy, norm_read x y hx hy]
  exact hostDiv_ideal _ _

/-- One weighted gathered point. -/
theorem weighted_read (P : FVec Ideal S4x256x2048 .f32) (W : FVec Ideal S256x256 .f32) (b : FVec Ideal S256 .f32)
    (q : Fin 4) (o : Fin 256) (n : Fin 8192) (j : Fin 3) :
    val_main_v38 (F := Ideal) x y P W b (ix4 q o n j)
      = project W P (fun o => b (ix1 o)) q o (picks (dists x y q n) j)
        * Ideal.div (recip (dists x y q n (picks (dists x y q n) j))) (norm3 (dists x y q n)) := by
  have e : idx_main_v36 (idx_main_v37 (ix4 q o n j)) = ix3 q n j :=
    funext fun a => by match a with | ⟨0, _⟩ => rfl | ⟨1, _⟩ => rfl | ⟨2, _⟩ => rfl
  rw [val_main_v38_apply, val_main_v37_apply, val_main_v36_apply, e, gathered_read x y hx hy, weight_read x y hx hy, Ideal.mulf_def]

/-- The interpolation: the three weighted points' sum. -/
theorem interp_read (P : FVec Ideal S4x256x2048 .f32) (W : FVec Ideal S256x256 .f32) (b : FVec Ideal S256 .f32)
    (q : Fin 4) (o : Fin 256) (n : Fin 8192) :
    val_main_v39 (F := Ideal) x y P W b (ix3 q o n) = interp (fun m => project W P (fun o => b (ix1 o)) q o m) (dists x y q n) := by
  have e (k : Fin 3) : idx_main_v39 (ix3 q o n) k = ix4 q o n k :=
    funext fun a => by match a with | ⟨0, _⟩ => rfl | ⟨1, _⟩ => rfl | ⟨2, _⟩ => rfl | ⟨3, _⟩ => rfl
  rw [val_main_v39_apply, Fin.sum_univ_three, e, e, e, weighted_read x y hx hy, weighted_read x y hx hy, weighted_read x y hx hy,
    val_main_cst_4_apply, Ideal.ofBits_def, Ideal.ofBits_zero_f32, zero_add]
  rfl

/-- The reference's result is the kernel's result array. -/
theorem result_read (P1 : FVec Ideal S4x256x2048 .f32) (P2 : FVec Ideal S4x256x8192 .f32) (W1 : FVec Ideal S256x256 .f32)
    (b1 : FVec Ideal S256 .f32) (W2 : FVec Ideal S256x256 .f32) (b2 : FVec Ideal S256 .f32) :
    val_main_v40 (F := Ideal) x y P1 P2 W1 b1 W2 b2 = result x y P1 P2 W1 b1 W2 b2 := by
  have h (q : Fin 4) (o : Fin 256) (n : Fin 8192) :
      val_main_v40 (F := Ideal) x y P1 P2 W1 b1 W2 b2 (ix3 q o n) = result x y P1 P2 W1 b1 W2 b2 (ix3 q o n) := by
    rw [val_main_v40_apply, interp_read x y hx hy, proj2_read, Ideal.addf_def]
    rfl
  funext i
  rw [eq_ix3 i]
  exact h _ _ _

end Cert.ReferenceIdeal.Val
-- ==== Proof.Finite.lean ====
/- The precondition at the ideal values: an array whose absolute values are all below infinity holds real numbers. -/
module

public import proofs.«01_k».proof.Pre_finite_points
public import proofs.«01_k».proof.Proof.RefDist
public import Idealize.ShloMosaic.Lib.ReduceAll
public import Idealize.ShloMosaic.Lib.StableHlo.Predicate

@[expose] public section

noncomputable section

namespace Cert.Pre_finite_points

open Idealize.ShloMosaic Cert.ReferenceIdeal.Val

/-- The shape relations the predicate states. -/
theorem facts : Facts where
  bcast_S_S4x3x2048 := by decide
  reducesTo_S4x3x2048_S_d0_1_2 := by decide
  h_S_ := by decide
  bcast_S_S4x3x8192 := by decide
  reducesTo_S4x3x8192_S_d0_1_2 := by decide

/-- An extended real whose absolute value compares below infinity is a real. -/
theorem real_of_abs (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = r := by
  have htop : Ideal.ofBits .f32 0x7F800000#32 = ⊤ := by simp [Ideal.ofBits, Ideal.ieee]
  rw [Ideal.ofBits_def, htop] at h
  have h' : max a (-a) < ⊤ := of_decide_eq_true ((StableHlo.Predicate.ofBool_eq_one_iff _).1 h)
  obtain ⟨h1, h2⟩ := max_lt_iff.1 h'
  refine ⟨a.toReal, (EReal.coe_toReal h1.ne fun e => ?_).symm⟩
  rw [e, EReal.neg_bot] at h2
  exact lt_irrefl _ h2

/-- Both bits of a conjunction that is 1 are 1. -/
theorem and_one (a b : BitVec 1) (h : IntOp.andi a b = 1#1) : a = 1#1 ∧ b = 1#1 := by
  revert a b; decide

/-- A reduction by `and`, over every axis, of the comparisons of the absolute values with infinity: the array is real. -/
theorem reals_of_all {s u : Shape} {axes : List (Fin s.rank)} (x : FVec Ideal s .f32) (h : s.ReducesTo axes S_)
    (hu : 0 < u.numel) (init : IVec u 1) (hb : S_.BroadcastsInDim s (![] : Fin 0 → Fin s.rank)) (j : S_.Idx)
    (e : Host.reduce IntOp.andi (cmpf .olt (Host.absf x) (broadcastInDim s ![] hb (constant (F := Ideal) S_ .f32 0x7F800000#32))) init h hu j
      = 1#1) : Reals x := fun i =>
  haveI : Subsingleton S_.Idx := ⟨fun a b => funext fun k => k.elim0⟩
  real_of_abs (x i) (Host.reduce_andi_all _ _ h hu j e i)

/-- Where the predicate holds, the first two arguments are real. -/
theorem reals [Facts] (a0 : FVec Ideal S4x3x2048 .f32) (a1 : FVec Ideal S4x3x8192 .f32) (a2 : FVec Ideal S4x256x2048 .f32)
    (a3 : FVec Ideal S4x256x8192 .f32) (a4 : FVec Ideal S256x256 .f32) (a5 : FVec Ideal S256 .f32) (a6 : FVec Ideal S256x256 .f32)
    (a7 : FVec Ideal S256 .f32) (h : fn (F := Ideal) a0 a1 a2 a3 a4 a5 a6 a7 = fun _ => 1#1) : Reals a0 ∧ Reals a1 := by
  obtain ⟨h0, h1⟩ := and_one _ _ (congrFun h fun k => k.elim0)
  exact ⟨reals_of_all a0 _ _ _ _ _ h0, reals_of_all a1 _ _ _ _ _ h1⟩

end Cert.Pre_finite_points
-- ==== Proof.lean ====
/- The five claims: the frames of the kernel, of its idealization and of the reference, the idealization's rewrites (none), and
   the equality of the idealized kernel's results with the reference's at finite coordinates. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

/-- The reference's run leaves its arguments and every semaphore counter as at the start. -/
theorem reference_frame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- From memories agreeing on the arguments, with finite coordinates: the idealized kernel and the reference both run and end with
    equal results, the coordinates passed through and the interpolated features. -/
theorem algebraic : Cert.algebraic_KernelIdeal_ReferenceIdeal_pre_finite_points (hKernelIdeal := Cert.KernelIdeal.Gen.facts)
    (hReferenceIdeal := Cert.ReferenceIdeal.Gen.facts) (hPre_finite_points := Cert.Pre_finite_points.facts) := by
  intro m g m' g' hpre hagree
  haveI := Cert.Pre_finite_points.facts
  have hreal := fun c => Cert.Pre_finite_points.reals _ _ _ _ _ _ _ _ (hpre c)
  refine ⟨fun c => m ((c.tc : Thread Cert.KernelIdeal.nD Cert.KernelIdeal.τ).loc Cert.KernelIdeal.main_arg1), fun c => Cert.KernelIdeal.Val.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun _ h c => ⟨(h c).2.2.1, h c⟩)
      (Cert.KernelIdeal.Val.run m g fun c => Cert.ReferenceIdeal.Val.dists_lt_top _ _ (hreal c).1 (hreal c).2)
  · refine (θ_run Cert.ReferenceIdeal.defs _ _).mono (fun _ h c => ⟨(h c).1.trans (hagree c).2.1, ((h c).2.1.trans ?_), (h c).2.2⟩)
      (Cert.ReferenceIdeal.Value.run (F := Ideal) m' g')
    obtain ⟨e0, e1, e2, e3, e4, e5, e6, e7⟩ := hagree c
    rw [Cert.ReferenceIdeal.Read.val_main_v40_eq, e0, e1, e2, e3, e4, e5, e6, e7]
    exact Cert.ReferenceIdeal.Val.result_read _ _ (hreal c).1 (hreal c).2 _ _ _ _ _ _

/-- Everything the certificate claims. -/
theorem claim : Cert.Claim :=
  ⟨Cert.Kernel.Gen.facts, Cert.KernelIdeal.Gen.facts, Cert.ReferenceIdeal.Gen.facts, Cert.Pre_finite_points.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof
